-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_rows [hPre_distinct_rows : Cert.Pre_distinct_rows.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_rows [hPre_distinct_rows : Cert.Pre_distinct_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distinct_rows [hKernelIdeal : Cert.KernelIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distinct_rows [hReferenceIdeal : Cert.ReferenceIdeal.Facts] [hPre_distinct_rows : Cert.Pre_distinct_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_distinct_rows [hKernelIdeal : Cert.KernelIdeal.Facts] [hReferenceIdeal : Cert.ReferenceIdeal.Facts] [hPre_distinct_rows : Cert.Pre_distinct_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distinct_rows : Cert.Pre_distinct_rows.Facts),
    quiescent_Kernel (hKernel := hKernel)
    ∧ quiescent_KernelIdeal (hKernelIdeal := hKernelIdeal)
    ∧ quiescent_KernelIdeal_pre_distinct_rows (hKernelIdeal := hKernelIdeal) (hPre_distinct_rows := hPre_distinct_rows)
    ∧ quiescent_ReferenceIdeal (hReferenceIdeal := hReferenceIdeal)
    ∧ quiescent_ReferenceIdeal_pre_distinct_rows (hReferenceIdeal := hReferenceIdeal) (hPre_distinct_rows := hPre_distinct_rows)
    ∧ preserves_Kernel_KernelIdeal
    ∧ algebraic_KernelIdeal_ReferenceIdeal_pre_distinct_rows (hKernelIdeal := hKernelIdeal) (hReferenceIdeal := hReferenceIdeal) (hPre_distinct_rows := hPre_distinct_rows)
-- ==== Pre_distinct_rows.lean ====
abbrev S64x2048x8 : Shape := ⟨3, ![64, 2048, 8]⟩
abbrev S2x8 : Shape := ⟨2, ![2, 8]⟩
abbrev S8x17 : Shape := ⟨2, ![8, 17]⟩
abbrev S1x8 : Shape := ⟨2, ![1, 8]⟩
abbrev S8 : Shape := ⟨1, ![8]⟩

class Facts : Prop where
  slices_S2x8_S1x8_0_0 : S2x8.Slices ![0, 0] S1x8
  shapeCasts_S1x8_S8 : S1x8.ShapeCasts S8
  slices_S2x8_S1x8_1_0 : S2x8.Slices ![1, 0] S1x8

variable [Facts]

def fn {F : FTy → Type} [FloatOps F] (main_arg0 : FVec F S64x2048x8 .f32) (main_arg1 : FVec F S2x8 .f32) (main_arg2 : FVec F S8x17 .f32) : IVec S8 1 :=
  let main_v0 : FVec F S1x8 .f32 := (extractStridedSlice S1x8 ![0, 0] · slices_S2x8_S1x8_0_0) main_arg1
  let main_v1 : FVec F S8 .f32 := shapeCast S8 main_v0 shapeCasts_S1x8_S8
  let main_v2 : FVec F S1x8 .f32 := (extractStridedSlice S1x8 ![1, 0] · slices_S2x8_S1x8_1_0) main_arg1
  let main_v3 : FVec F S8 .f32 := shapeCast S8 main_v2 shapeCasts_S1x8_S8
  let main_v4 : IVec S8 1 := cmpf .une main_v1 main_v3
  main_v4
-- ==== Kernel.lean ====
abbrev S64x2048x8 : Shape := ⟨3, ![64, 2048, 8]⟩
abbrev S2x8 : Shape := ⟨2, ![2, 8]⟩
abbrev S8x17 : Shape := ⟨2, ![8, 17]⟩
abbrev S1048576 : Shape := ⟨1, ![1048576]⟩
abbrev S16 : Shape := ⟨1, ![16]⟩
abbrev S136 : Shape := ⟨1, ![136]⟩
abbrev S_ : Shape := ⟨0, ![]⟩
abbrev S144 : Shape := ⟨1, ![144]⟩
abbrev S32768 : Shape := ⟨1, ![32768]⟩

abbrev nBuf : Table → Nat
  | .hbm => 11
  | .local .scVector .vmem => 4
  | _ => 0

abbrev bufTy : (tb : Table) → Fin (nBuf tb) → BufTy
  | .hbm, ⟨0, _⟩ => ⟨S64x2048x8, .f32⟩
  | .hbm, ⟨1, _⟩ => ⟨S2x8, .f32⟩
  | .hbm, ⟨2, _⟩ => ⟨S8x17, .f32⟩
  | .hbm, ⟨3, _⟩ => ⟨S1048576, .f32⟩
  | .hbm, ⟨4, _⟩ => ⟨S16, .f32⟩
  | .hbm, ⟨5, _⟩ => ⟨S136, .f32⟩
  | .hbm, ⟨6, _⟩ => ⟨S_, .i32⟩
  | .hbm, ⟨7, _⟩ => ⟨S_, .f32⟩
  | .hbm, ⟨8, _⟩ => ⟨S144, .f32⟩
  | .hbm, ⟨9, _⟩ => ⟨S1048576, .f32⟩
  | .hbm, ⟨10, _⟩ => ⟨S64x2048x8, .f32⟩
  | .local .scVector .vmem, ⟨0, _⟩ => ⟨S16, .f32⟩
  | .local .scVector .vmem, ⟨1, _⟩ => ⟨S144, .f32⟩
  | .local .scVector .vmem, ⟨2, _⟩ => ⟨S32768, .f32⟩
  | .local .scVector .vmem, ⟨3, _⟩ => ⟨S32768, .f32⟩
  | _, _ => ⟨S64x2048x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_scv : Ref sig .scVector := ⟨.hbm, 3, rfl⟩
abbrev main_v1_scv : Ref sig .scVector := ⟨.hbm, 4, rfl⟩
abbrev main_v3_scv : Ref sig .scVector := ⟨.hbm, 8, rfl⟩
abbrev main_v4_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]

def k0_chk1 (v19 : IVec S16 32) : Prop :=
  (∀ a x, ((![v19] : Fin 1 → IVec S16 32) a x).toNat < S16.size a)
theorem k0_idx1_inb : ∀ (v19 : IVec S16 32) (k0_hw1 : k0_chk1 v19), ∀ a x, ((![v19] : Fin 1 → IVec S16 32) a x).toNat < S16.size a := fun v19 k0_hw1 => k0_hw1

def k0_chk2 (v22 : IVec S16 32) : Prop :=
  (∀ a x, ((![v22] : Fin 1 → IVec S16 32) a x).toNat < S16.size a)
theorem k0_idx2_inb : ∀ (v22 : IVec S16 32) (k0_hw2 : k0_chk2 v22), ∀ a x, ((![v22] : Fin 1 → IVec S16 32) a x).toNat < S16.size a := fun v22 k0_hw2 => k0_hw2
@[reducible] def k0_t1_loop : Scf.Loop 32 :=
  let c0_i32_6 : BitVec 32 := 0#32
  let c2048_i32 : BitVec 32 := 2048#32
  let v34 : BitVec 32 := Scalar.addi c0_i32_6 c2048_i32
  let c1_i32_7 : BitVec 32 := 1#32
  ⟨c0_i32_6, v34, c1_i32_7⟩
def k0_off2 (k0_t1 : Fin k0_t1_loop.trips) : Fin 1 → Nat :=
  let c0_i32_6 : BitVec 32 := 0#32
  let c1_i32_7 : BitVec 32 := 1#32
  let arg10 : BitVec 32 := Scf.iv c0_i32_6 c1_i32_7 k0_t1
  let c16_i32 : BitVec 32 := 16#32
  let v35 : BitVec 32 := Scalar.muli arg10 c16_i32
  let v36 : Index := Scalar.indexCast v35
  ![v36.toNat]

def k0_chk3 (v45 : IVec S16 32) : Prop :=
  (∀ a x, ((![v45] : Fin 1 → IVec S16 32) a x).toNat < S144.size a)
theorem k0_idx3_inb : ∀ (v45 : IVec S16 32) (k0_hw3 : k0_chk3 v45), ∀ a x, ((![v45] : Fin 1 → IVec S16 32) a x).toNat < S144.size a := fun v45 k0_hw3 => k0_hw3

def k0_chk4 (v48 : IVec S16 32) : Prop :=
  (∀ a x, ((![v48] : Fin 1 → IVec S16 32) a x).toNat < S144.size a)
theorem k0_idx4_inb : ∀ (v48 : IVec S16 32) (k0_hw4 : k0_chk4 v48), ∀ a x, ((![v48] : Fin 1 → IVec S16 32) a x).toNat < S144.size a := fun v48 k0_hw4 => k0_hw4
def k0_off3 (k0_t1 : Fin k0_t1_loop.trips) : Fin 1 → Nat :=
  let c0_i32_6 : BitVec 32 := 0#32
  let c1_i32_7 : BitVec 32 := 1#32
  let arg10 : BitVec 32 := Scf.iv c0_i32_6 c1_i32_7 k0_t1
  let c16_i32_11 : BitVec 32 := 16#32
  let v55 : BitVec 32 := Scalar.muli arg10 c16_i32_11
  let v56 : Index := Scalar.indexCast v55
  ![v56.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048x8 : Shape := ⟨3, ![64, 2048, 8]⟩
abbrev S2x8 : Shape := ⟨2, ![2, 8]⟩
abbrev S8x17 : Shape := ⟨2, ![8, 17]⟩
abbrev S_ : Shape := ⟨0, ![]⟩
abbrev S8 : Shape := ⟨1, ![8]⟩
abbrev S1x1x8 : Shape := ⟨3, ![1, 1, 8]⟩
abbrev S64x2048x8x1 : Shape := ⟨4, ![64, 2048, 8, 1]⟩
abbrev S64x2048x8x2 : Shape := ⟨4, ![64, 2048, 8, 2]⟩

abbrev nBuf : Space → Nat
  | .hbm => 76
  | .vmem => 0
  | .smem => 0
  | _ => 0

abbrev bufTy : (tb : Table) → Fin (tcTables nBuf tb) → BufTy
  | .hbm, ⟨0, _⟩ => ⟨S64x2048x8, .f32⟩
  | .hbm, ⟨1, _⟩ => ⟨S2x8, .f32⟩
  | .hbm, ⟨2, _⟩ => ⟨S8x17, .f32⟩
  | .hbm, ⟨3, _⟩ => ⟨S_, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S1x1x8, .f32⟩
  | .hbm, ⟨8, _⟩ => ⟨S64x2048x8, .f32⟩
  | .hbm, ⟨9, _⟩ => ⟨S64x2048x8, .f32⟩
  | .hbm, ⟨10, _⟩ => ⟨S8, .f32⟩
  | .hbm, ⟨11, _⟩ => ⟨S1x1x8, .f32⟩
  | .hbm, ⟨12, _⟩ => ⟨S64x2048x8, .f32⟩
  | .hbm, ⟨13, _⟩ => ⟨S64x2048x8, .f32⟩
  | .hbm, ⟨14, _⟩ => ⟨S_, .f32⟩
  | .hbm, ⟨15, _⟩ => ⟨S64x2048x8, .f32⟩
  | .hbm, ⟨16, _⟩ => ⟨S64x2048x8, .f32⟩
  | .hbm, ⟨17, _⟩ => ⟨S64x2048x8, .f32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S64x2048x8, .f32⟩
  | .hbm, ⟨22, _⟩ => ⟨S64x2048x8, .f32⟩
  | .hbm, ⟨23, _⟩ => ⟨S_, .f32⟩
  | .hbm, ⟨24, _⟩ => ⟨S64x2048x8, .f32⟩
  | .hbm, ⟨25, _⟩ => ⟨S64x2048x8, .f32⟩
  | .hbm, ⟨26, _⟩ => ⟨S64x2048x8, .i32⟩
  | .hbm, ⟨27, _⟩ => ⟨S8, .i32⟩
  | .hbm, ⟨28, _⟩ => ⟨S1x1x8, .i32⟩
  | .hbm, ⟨29, _⟩ => ⟨S_, .i32⟩
  | .hbm, ⟨30, _⟩ => ⟨S1x1x8, .i32⟩
  | .hbm, ⟨31, _⟩ => ⟨S1x1x8, .i1⟩
  | .hbm, ⟨32, _⟩ => ⟨S_, .i32⟩
  | .hbm, ⟨33, _⟩ => ⟨S1x1x8, .i32⟩
  | .hbm, ⟨34, _⟩ => ⟨S1x1x8, .i32⟩
  | .hbm, ⟨35, _⟩ => ⟨S1x1x8, .i32⟩
  | .hbm, ⟨36, _⟩ => ⟨S_, .i32⟩
  | .hbm, ⟨37, _⟩ => ⟨S64x2048x8, .i32⟩
  | .hbm, ⟨38, _⟩ => ⟨S64x2048x8, .i1⟩
  | .hbm, ⟨39, _⟩ => ⟨S_, .i32⟩
  | .hbm, ⟨40, _⟩ => ⟨S64x2048x8, .i32⟩
  | .hbm, ⟨41, _⟩ => ⟨S64x2048x8, .i32⟩
  | .hbm, ⟨42, _⟩ => ⟨S64x2048x8, .i32⟩
  | .hbm, ⟨43, _⟩ => ⟨S64x2048x8, .i32⟩
  | .hbm, ⟨44, _⟩ => ⟨S64x2048x8x1, .i32⟩
  | .hbm, ⟨45, _⟩ => ⟨S64x2048x8x1, .i32⟩
  | .hbm, ⟨46, _⟩ => ⟨S64x2048x8x2, .i32⟩
  | .hbm, ⟨47, _⟩ => ⟨S64x2048x8, .f32⟩
  | .hbm, ⟨48, _⟩ => ⟨S1x1x8, .i32⟩
  | .hbm, ⟨49, _⟩ => ⟨S_, .i32⟩
  | .hbm, ⟨50, _⟩ => ⟨S64x2048x8, .i32⟩
  | .hbm, ⟨51, _⟩ => ⟨S64x2048x8, .i32⟩
  | .hbm, ⟨52, _⟩ => ⟨S_, .i32⟩
  | .hbm, ⟨53, _⟩ => ⟨S1x1x8, .i32⟩
  | .hbm, ⟨54, _⟩ => ⟨S1x1x8, .i1⟩
  | .hbm, ⟨55, _⟩ => ⟨S_, .i32⟩
  | .hbm, ⟨56, _⟩ => ⟨S1x1x8, .i32⟩
  | .hbm, ⟨57, _⟩ => ⟨S1x1x8, .i32⟩
  | .hbm, ⟨58, _⟩ => ⟨S1x1x8, .i32⟩
  | .hbm, ⟨59, _⟩ => ⟨S_, .i32⟩
  | .hbm, ⟨60, _⟩ => ⟨S64x2048x8, .i32⟩
  | .hbm, ⟨61, _⟩ => ⟨S64x2048x8, .i1⟩
  | .hbm, ⟨62, _⟩ => ⟨S_, .i32⟩
  | .hbm, ⟨63, _⟩ => ⟨S64x2048x8, .i32⟩
  | .hbm, ⟨64, _⟩ => ⟨S64x2048x8, .i32⟩
  | .hbm, ⟨65, _⟩ => ⟨S64x2048x8, .i32⟩
  | .hbm, ⟨66, _⟩ => ⟨S64x2048x8, .i32⟩
  | .hbm, ⟨67, _⟩ => ⟨S64x2048x8x1, .i32⟩
  | .hbm, ⟨68, _⟩ => ⟨S64x2048x8x1, .i32⟩
  | .hbm, ⟨69, _⟩ => ⟨S64x2048x8x2, .i32⟩
  | .hbm, ⟨70, _⟩ => ⟨S64x2048x8, .f32⟩
  | .hbm, ⟨71, _⟩ => ⟨S64x2048x8, .f32⟩
  | .hbm, ⟨72, _⟩ => ⟨S64x2048x8, .f32⟩
  | .hbm, ⟨73, _⟩ => ⟨S64x2048x8, .f32⟩
  | .hbm, ⟨74, _⟩ => ⟨S64x2048x8, .f32⟩
  | .hbm, ⟨75, _⟩ => ⟨S64x2048x8, .f32⟩
  | _, _ => ⟨S64x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.Lane.lean ====
/-
  What one tile computes, as functions of the contents of the three arrays it reads: the sixteen output values of one step,
  and the whole flat result. Also the four index checks the tile makes, each true whatever the arrays hold.
-/
module

public import proofs.«01_k».proof.Defs
public import proofs.«01_k».proof.Proof.Gen.KernelIdeal
public import proofs.«01_k».proof.Proof.Gen.KernelIdeal.Skeleton
public import Idealize.ShloMosaic.Lib.StableHlo.Predicate

@[expose] public section

noncomputable section

namespace Cert.Proof.KernelIdeal

open Cert.KernelIdeal Cert.KernelIdeal.Gen
open Idealize.ShloMosaic

/-! ## The index words -/

/-- The column a lane works on: lane `l` reads column `l` modulo 8. -/
theorem pay5_lane : ∀ l : S16.Idx, k0_pay5 l = BitVec.ofNat 32 ((l 0).val % 8) := by decide

/-- The start of that column's row in the flat table: 17 times the column. -/
theorem pay10_lane (l : S16.Idx) : k0_pay10 k0_pay5 l = BitVec.ofNat 32 ((l 0).val % 8 * 17) := by
  show IntOp.muli (k0_pay5 l) 17#32 = _
  rw [pay5_lane]
  apply BitVec.eq_of_toNat_eq
  have h : (l 0).val % 8 < 8 := Nat.mod_lt _ (by decide)
  simp only [IntOp.muli, BitVec.toNat_mul, BitVec.toNat_ofNat]
  omega

/-- A word clamped to run from 0 to 15, as signed words are compared, is at most 15. -/
theorem clamp_le (w : BitVec 32) : (IntOp.minsi (IntOp.maxsi w 0#32) 15#32).toNat ≤ 15 := by
  unfold IntOp.minsi IntOp.maxsi
  by_cases h : (0#32).slt w
  · rw [if_pos h]
    by_cases h' : w.slt 15#32
    · rw [if_pos h']
      simp only [BitVec.slt_eq_decide, BitVec.toInt_eq_toNat_cond, decide_eq_true_eq, BitVec.toNat_ofNat] at h h'
      omega
    · rw [if_neg h']; decide
  · rw [if_neg h]; decide

/-- The first row's reads are inside the sixteen training values. -/
theorem chk1 : k0_chk1 k0_pay5 := by
  intro a x
  obtain rfl : a = 0 := Subsingleton.elim _ _
  show (k0_pay5 x).toNat < 16
  rw [pay5_lane, BitVec.toNat_ofNat]; omega

/-- The lane's place in the second row: its column plus 8. -/
theorem pay6_lane (l : S16.Idx) : k0_pay6 k0_pay5 l = BitVec.ofNat 32 ((l 0).val % 8 + 8) := by
  show IntOp.addi (k0_pay5 l) 8#32 = _
  rw [pay5_lane]
  apply BitVec.eq_of_toNat_eq
  simp only [IntOp.addi, BitVec.toNat_add, BitVec.toNat_ofNat]
  omega

/-- The second row's reads are inside the sixteen training values. -/
theorem chk2 : k0_chk2 (k0_pay6 k0_pay5) := by
  intro a x
  obtain rfl : a = 0 := Subsingleton.elim _ _
  show (k0_pay6 k0_pay5 x).toNat < 16
  rw [pay6_lane, BitVec.toNat_ofNat]; omega

variable {F : FTy → Type} [FloatOps F]

/-- The table positions of one step: each lane's clamped bin, past the start of its column's row. -/
def posV (a b x : FVec F S16 .f32) : IVec S16 32 := addi (k0_pay2 a b x) (k0_pay10 k0_pay5)

/-- As a number, a table position is the bin plus 17 times the column: the sum does not wrap. -/
theorem posV_toNat (a b x : FVec F S16 .f32) (l : S16.Idx) :
    (posV a b x l).toNat = (k0_pay2 a b x l).toNat + (l 0).val % 8 * 17 := by
  show (IntOp.addi (k0_pay2 a b x l) (k0_pay10 k0_pay5 l)).toNat = _
  have h : (k0_pay2 a b x l).toNat ≤ 15 := clamp_le _
  rw [pay10_lane]
  simp only [IntOp.addi, BitVec.toNat_add, BitVec.toNat_ofNat]
  omega

/-- The next table position is one more. -/
theorem posV_succ (a b x : FVec F S16 .f32) (l : S16.Idx) :
    (k0_pay3 (posV a b x) l).toNat = (k0_pay2 a b x l).toNat + (l 0).val % 8 * 17 + 1 := by
  show (IntOp.addi (posV a b x l) 1#32).toNat = _
  have h : (k0_pay2 a b x l).toNat ≤ 15 := clamp_le _
  simp only [IntOp.addi, BitVec.toNat_add, BitVec.toNat_ofNat, posV_toNat]
  omega

/-- The reads at the bins' lower edges are inside the padded table. -/
theorem chk3 (a b x : FVec F S16 .f32) : k0_chk3 (posV a b x) := by
  intro i l
  obtain rfl : i = 0 := Subsingleton.elim _ _
  show (posV a b x l).toNat < 144
  have h : (k0_pay2 a b x l).toNat ≤ 15 := clamp_le _
  rw [posV_toNat]; omega

/-- The reads at the bins' upper edges are inside the padded table. -/
theorem chk4 (a b x : FVec F S16 .f32) : k0_chk4 (k0_pay3 (posV a b x)) := by
  intro i l
  obtain rfl : i = 0 := Subsingleton.elim _ _
  show (k0_pay3 (posV a b x) l).toNat < 144
  have h : (k0_pay2 a b x l).toNat ≤ 15 := clamp_le _
  rw [posV_succ]; omega

/-! ## The values -/

/-- The lanes' scales, from the two training rows laid end to end. -/
def scaleV (s : Vec F S16 .f32) : FVec F S16 .f32 :=
  k0_pay8 (loadIdx s ![k0_pay5] (k0_idx1_inb _ chk1)) (loadIdx s ![k0_pay6 k0_pay5] (k0_idx2_inb _ chk2))

/-- The lanes' shifts. -/
def shiftV (s : Vec F S16 .f32) : FVec F S16 .f32 :=
  k0_pay9 (loadIdx s ![k0_pay5] (k0_idx1_inb _ chk1)) (loadIdx s ![k0_pay6 k0_pay5] (k0_idx2_inb _ chk2))

/-- What one step stores: sixteen interpolated values, from sixteen inputs, with scales `a` and shifts `b` and the table `t`. -/
def stepV (a b : FVec F S16 .f32) (t : Vec F S144 .f32) (x : FVec F S16 .f32) : FVec F S16 .f32 :=
  k0_pay4 a b x (loadIdx t ![posV a b x] (k0_idx3_inb _ (chk3 a b x)))
    (loadIdx t ![k0_pay3 (posV a b x)] (k0_idx4_inb _ (chk4 a b x)))

/-- The sixteen inputs of step `q` of a flat array. -/
def stepIn {n : ℕ} (x : Vec F (⟨1, ![n]⟩ : Shape) .f32) (q : ℕ) (h : 16 * q + 16 ≤ n) : FVec F S16 .f32 :=
  fun l => x (Shape.Idx.ofFin ⟨16 * q + (l 0).val, by have : (l 0).val < 16 := (l 0).isLt; omega⟩)

/-- The flat result, of the three arrays' contents. -/
def outV (x : Vec F S1048576 .f32) (s : Vec F S16 .f32) (t : Vec F S144 .f32) : Vec F S1048576 .f32 := fun n =>
  stepV (scaleV s) (shiftV s) t
    (stepIn x ((n 0).val / 16) (by have : (n 0).val < 1048576 := (n 0).isLt; omega))
    (Shape.Idx.ofFin ⟨(n 0).val % 16, Nat.mod_lt _ (by decide)⟩)

/-- Element `16 q + l` of the result is lane `l` of step `q`. -/
theorem outV_at (x : Vec F S1048576 .f32) (s : Vec F S16 .f32) (t : Vec F S144 .f32) (n : S1048576.Idx) (q : ℕ) (h : 16 * q + 16 ≤ 1048576)
    (l : S16.Idx) (hn : (n 0).val = 16 * q + (l 0).val) :
    outV x s t n = stepV (scaleV s) (shiftV s) t (stepIn x q h) l := by
  have hl : (l 0).val < 16 := (l 0).isLt
  have hq : (n 0).val / 16 = q := by omega
  have hm : (Shape.Idx.ofFin ⟨(n 0).val % 16, Nat.mod_lt _ (by decide)⟩ : S16.Idx) = l := by
    rw [Shape.Idx.eq_ofFin l]
    exact congrArg Shape.Idx.ofFin (Fin.ext (by show (n 0).val % 16 = (l 0).val; omega))
  subst hq
  unfold outV
  rw [hm]

end Cert.Proof.KernelIdeal

end
-- ==== Proof.Tile.lean ====
/-
  One tile's task, run with the values it computes: its chunk of the flat input goes in, its chunk of the flat result
  comes out, each element `outV`'s. The launch around it is `Run.lean`'s.
-/
module

public import proofs.«01_k».proof.Defs
public import proofs.«01_k».proof.Proof.Lane
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none

/-- The launch's handshakes and the tiles' transfers keep their counts here. -/
abbrev UH : Type := URounds (GSem nD τ sig) ℕ
abbrev UU : Type := UH × Counters

local notation "𝕄" => MT nD τ sig (HIx 1) (Elt F) ℕ UU ℕ

/-! ## The buffers -/

abbrev xLoc (d : Dev nD) : Loc nD τ sig := (SparseCore.T d).loc main_v0
abbrev sLoc (d : Dev nD) : Loc nD τ sig := (SparseCore.T d).loc main_v1
abbrev tLoc (d : Dev nD) : Loc nD τ sig := (SparseCore.T d).loc main_v3
abbrev oLoc (d : Dev nD) : Loc nD τ sig := (SparseCore.T d).loc main_v4

abbrev xV : Memref sig .scVector .hbm S1048576 .f32 := Memref.whole main_v0_scv
abbrev sV : Memref sig .scVector .hbm S16 .f32 := Memref.whole main_v1_scv
abbrev tV : Memref sig .scVector .hbm S144 .f32 := Memref.whole main_v3_scv
abbrev oV : Memref sig .scVector .hbm S1048576 .f32 := Memref.whole main_v4_scv
abbrev bS : Memref sig .scVector .vmem S16 .f32 := Memref.whole cc0_scratch0
abbrev bT : Memref sig .scVector .vmem S144 .f32 := Memref.whole cc0_scratch1
abbrev bX : Memref sig .scVector .vmem S32768 .f32 := Memref.whole cc0_scratch2
abbrev bO : Memref sig .scVector .vmem S32768 .f32 := Memref.whole cc0_scratch3

/-- Chunk `k` of a flat array: its elements `32768 k`, …, `32768 k + 32767`. -/
def chunk (k : ℕ) : Finset S1048576.Idx := Finset.univ.filter fun n => (n 0).val / 32768 = k

/-- Shares of an array every tile reads: tile `k` takes the left half of what the tiles before it left. -/
def left : ℕ → PosShare TreeShare
  | 0 => fullShare
  | k + 1 => (left k).right
/-- The read share that tile `k` gets of an array that every tile reads. -/
def part (k : ℕ) : PosShare TreeShare := (left k).left

variable [FloatOps F]
variable (X : Vec F S1048576 .f32) (Sv : Vec F S16 .f32) (Tv : Vec F S144 .f32)

/-- What tile `k` is handed: its chunk of the input, a share of the two small arrays, its chunk of the result. -/
def tileIn (d : Dev nD) (k : ℕ) : sProp 𝕄 :=
  iprop((xLoc d ↦[chunk k]{fullShare} X) ∗ (sLoc d ↦{part k} Sv) ∗ (tLoc d ↦{part k} Tv) ∗ ∃ f, oLoc d ↦[chunk k]{fullShare} f)
/-- What it brings back: the same, its chunk of the result holding the values. -/
def tileOut (d : Dev nD) (k : ℕ) : sProp 𝕄 :=
  iprop((xLoc d ↦[chunk k]{fullShare} X) ∗ (sLoc d ↦{part k} Sv) ∗ (tLoc d ↦{part k} Tv) ∗ oLoc d ↦[chunk k]{fullShare} outV X Sv Tv)

/-! ## The task -/

section Task

variable (d : Dev nD) (L : grid0.Coords)

abbrev cV (L : grid0.Coords) : Fin τ.nSC := (L 0).castLE hcore0
abbrev jV (L : grid0.Coords) : Fin τ.nSub := (L 1).castLE hsub0
/-- The chunk the tile works on. -/
abbrev tileNo (L : grid0.Coords) : ℕ := 2 * (L 1).val + (L 0).val

omit [FloatOps F] in
/-- A tile's number is below 32. -/
theorem tileNo_lt : tileNo L < 32 := by
  have h0 : (L 0).val < 2 := (L 0).isLt
  have h1 : (L 1).val < 16 := (L 1).isLt
  show 2 * (L 1).val + (L 0).val < 32
  omega

abbrev xK (L : grid0.Coords) : Memref sig .scVector .hbm S32768 .f32 := (xV).slice (Rect.unit (s := S1048576) (k0_off1 L) S32768.size (k0_off1_inb L)) (fun _ => rfl)
abbrev oK (L : grid0.Coords) : Memref sig .scVector .hbm S32768 .f32 := (oV).slice (Rect.unit (s := S1048576) (k0_off4 L) S32768.size (k0_off4_inb L)) (fun _ => rfl)

omit [FloatOps F] in
/-- An element lies in block `k` when its place over 32768 is `k`. -/
theorem mem_chunk (k : ℕ) (n : S1048576.Idx) : n ∈ chunk k ↔ (n 0).val / 32768 = k := by simp [chunk]

omit [FloatOps F] in
/-- The slice of the input a tile copies in is its block. -/
theorem set_xK : (xK L).view.set = chunk (tileNo L) := by
  rw [show (xK L).view.set = _ from View.set_slice_whole _ _]
  ext n
  rw [Rect.mem_set_unit, mem_chunk, k0_off1_eq]
  refine Iff.trans (Fin.forall_fin_one (p := fun a : Fin 1 => _)) ?_
  simp only [Matrix.cons_val_zero, tileNo]
  show 65536 * (L 1).val + 32768 * (L 0).val ≤ (n 0).val ∧ (n 0).val < 65536 * (L 1).val + 32768 * (L 0).val + 32768 ↔ _
  omega

omit [FloatOps F] in
/-- The slice of the result a tile copies out to is its block. -/
theorem set_oK : (oK L).view.set = chunk (tileNo L) := by
  rw [show (oK L).view.set = _ from View.set_slice_whole _ _]
  ext n
  rw [Rect.mem_set_unit, mem_chunk, k0_off4_eq]
  refine Iff.trans (Fin.forall_fin_one (p := fun a : Fin 1 => _)) ?_
  simp only [Matrix.cons_val_zero, tileNo]
  show 65536 * (L 1).val + 32768 * (L 0).val ≤ (n 0).val ∧ (n 0).val < 65536 * (L 1).val + 32768 * (L 0).val + 32768 ↔ _
  omega

/-! The arrays and the scratch buffers, as the task addresses them. -/

omit [FloatOps F] in
/-- Holding a tile's block of the input is holding the slice the program names. -/
theorem pts_xK (f : Buf (Elt F) (xLoc d)) :
    ((xK L).view.loc (V d (cV L) (jV L)) ↦[(xK L).view.set]{fullShare} f : sProp 𝕄) = xLoc d ↦[chunk (tileNo L)]{fullShare} f := by
  rw [set_xK]
omit [FloatOps F] in
/-- Holding a tile's block of the result is holding the slice the program names. -/
theorem pts_oK (f : Buf (Elt F) (oLoc d)) :
    ((oK L).view.loc (V d (cV L) (jV L)) ↦[(oK L).view.set]{fullShare} f : sProp 𝕄) = oLoc d ↦[chunk (tileNo L)]{fullShare} f := by
  rw [set_oK]
omit [FloatOps F] in
/-- The training rows, held whole, as the tile's program names them. -/
theorem pts_sV (q : PosShare TreeShare) (f : Buf (Elt F) (sLoc d)) :
    ((sV).view.loc (V d (cV L) (jV L)) ↦{q} f : sProp 𝕄) = sLoc d ↦{q} f := rfl
omit [FloatOps F] in
/-- The table, held whole, as the tile's program names it. -/
theorem pts_tV (q : PosShare TreeShare) (f : Buf (Elt F) (tLoc d)) :
    ((tV).view.loc (V d (cV L) (jV L)) ↦{q} f : sProp 𝕄) = tLoc d ↦{q} f := rfl
omit [FloatOps F] in
/-- The tile's buffer for the training rows, as its program names it. -/
theorem pts_bS (f : Buf (Elt F) ((V d (cV L) (jV L)).loc cc0_scratch0)) :
    ((bS).view.loc (V d (cV L) (jV L)) ↦{fullShare} f : sProp 𝕄) = (V d (cV L) (jV L)).loc cc0_scratch0 ↦{fullShare} f := rfl
omit [FloatOps F] in
/-- The tile's buffer for the table, as its program names it. -/
theorem pts_bT (f : Buf (Elt F) ((V d (cV L) (jV L)).loc cc0_scratch1)) :
    ((bT).view.loc (V d (cV L) (jV L)) ↦{fullShare} f : sProp 𝕄) = (V d (cV L) (jV L)).loc cc0_scratch1 ↦{fullShare} f := rfl
omit [FloatOps F] in
/-- The tile's buffer for its inputs, as its program names it. -/
theorem pts_bX (f : Buf (Elt F) ((V d (cV L) (jV L)).loc cc0_scratch2)) :
    ((bX).view.loc (V d (cV L) (jV L)) ↦{fullShare} f : sProp 𝕄) = (V d (cV L) (jV L)).loc cc0_scratch2 ↦{fullShare} f := rfl
omit [FloatOps F] in
/-- The tile's buffer for its outputs, as its program names it. -/
theorem pts_bO (f : Buf (Elt F) ((V d (cV L) (jV L)).loc cc0_scratch3)) :
    ((bO).view.loc (V d (cV L) (jV L)) ↦{fullShare} f : sProp 𝕄) = (V d (cV L) (jV L)).loc cc0_scratch3 ↦{fullShare} f := rfl

/-- The task's four transfer counters. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

omit [FloatOps F] in
/-- A tile's semaphore cells are those of its four copies and the others. -/
theorem cells_eq :
    (ownSems0 (V d (cV L) (jV L)) : sProp 𝕄)
      = iprop(semVal (cell0 d L) 0 ∗ semVal (cell1 d L) 0 ∗ semVal (cell2 d L) 0 ∗ semVal (cell3 d L) 0
          ∗ bigSep (((((ownCells (V d (cV L) (jV L))).erase (cell0 d L)).erase (cell1 d L)).erase (cell2 d L)).erase (cell3 d L))
              fun g => semVal g 0) := by
  unfold SparseCore.Cfg.ownSems0
  have h0 : cell0 d L ∈ ownCells (V d (cV L) (jV L)) := mem_ownCells.mpr ⟨rfl, by
    show (SemLoc.dma cc0_scoped0.sem : SemLoc sig).isScoped .scVector = true; decide⟩
  have h1 : cell1 d L ∈ ownCells (V d (cV L) (jV L)) := mem_ownCells.mpr ⟨rfl, by
    show (SemLoc.dma cc0_scoped1.sem : SemLoc sig).isScoped .scVector = true; decide⟩
  have h2 : cell2 d L ∈ ownCells (V d (cV L) (jV L)) := mem_ownCells.mpr ⟨rfl, by
    show (SemLoc.dma cc0_scoped2.sem : SemLoc sig).isScoped .scVector = true; decide⟩
  have h3 : cell3 d L ∈ ownCells (V d (cV L) (jV L)) := mem_ownCells.mpr ⟨rfl, by
    show (SemLoc.dma cc0_scoped3.sem : SemLoc sig).isScoped .scVector = true; decide⟩
  have n10 : cell1 d L ≠ cell0 d L := fun e => absurd (congrArg Prod.snd e) (show (SemLoc.dma cc0_scoped1.sem : SemLoc sig) ≠ .dma cc0_scoped0.sem by decide)
  have n20 : cell2 d L ≠ cell0 d L := fun e => absurd (congrArg Prod.snd e) (show (SemLoc.dma cc0_scoped2.sem : SemLoc sig) ≠ .dma cc0_scoped0.sem by decide)
  have n21 : cell2 d L ≠ cell1 d L := fun e => absurd (congrArg Prod.snd e) (show (SemLoc.dma cc0_scoped2.sem : SemLoc sig) ≠ .dma cc0_scoped1.sem by decide)
  have n30 : cell3 d L ≠ cell0 d L := fun e => absurd (congrArg Prod.snd e) (show (SemLoc.dma cc0_scoped3.sem : SemLoc sig) ≠ .dma cc0_scoped0.sem by decide)
  have n31 : cell3 d L ≠ cell1 d L := fun e => absurd (congrArg Prod.snd e) (show (SemLoc.dma cc0_scoped3.sem : SemLoc sig) ≠ .dma cc0_scoped1.sem by decide)
  have n32 : cell3 d L ≠ cell2 d L := fun e => absurd (congrArg Prod.snd e) (show (SemLoc.dma cc0_scoped3.sem : SemLoc sig) ≠ .dma cc0_scoped2.sem by decide)
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩),
    SparseCore.bigSep_erase' (Finset.mem_erase.mpr ⟨n32, Finset.mem_erase.mpr ⟨n31, Finset.mem_erase.mpr ⟨n30, h3⟩⟩⟩)]

/-- A scratch buffer of the tile, as a buffer of the device. -/
abbrev own (b : Ref sig .scVector) : DevRef τ sig := (Proc.scVector (cV L) (jV L)).devRef b

omit [FloatOps F] in
/-- A tile's own buffers are its four scratch arrays. -/
theorem bufs_eq :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase
              (own L cc0_scratch2)).erase (own L cc0_scratch3))
              fun b => iprop(∃ f, ((d, b) : Loc nD τ sig) ↦{fullShare} f)) := by
  unfold SparseCore.Cfg.ownBufs
  have hm (b : Ref sig .scVector) (h : (own L b).owner = .proc (Proc.scVector (cV L) (jV L))) : own L b ∈ ownRefs (τ := τ) (.scVector (cV L) (jV L)) :=
    SparseCore.Cfg.mem_ownRefs_of_owner h
  have hn {b b' : Ref sig .scVector} (h : b ≠ b') : own L b ≠ own L b' := fun e => h (Proc.devRef_injective _ e)
  refine (SparseCore.bigSep_erase' (hm cc0_scratch0 rfl)).trans ?_
  rw [SparseCore.bigSep_erase' (Finset.mem_erase.mpr ⟨hn (b := cc0_scratch1) (b' := cc0_scratch0) (by decide), hm cc0_scratch1 rfl⟩),
    SparseCore.bigSep_erase' (Finset.mem_erase.mpr ⟨hn (b := cc0_scratch2) (b' := cc0_scratch1) (by decide),
      Finset.mem_erase.mpr ⟨hn (b := cc0_scratch2) (b' := cc0_scratch0) (by decide), hm cc0_scratch2 rfl⟩⟩),
    SparseCore.bigSep_erase' (Finset.mem_erase.mpr ⟨hn (b := cc0_scratch3) (b' := cc0_scratch2) (by decide),
      Finset.mem_erase.mpr ⟨hn (b := cc0_scratch3) (b' := cc0_scratch1) (by decide),
        Finset.mem_erase.mpr ⟨hn (b := cc0_scratch3) (b' := cc0_scratch0) (by decide), hm cc0_scratch3 rfl⟩⟩⟩)]

/-- The tile's chunk of the input, as its scratch buffer holds it. -/
def mine (k : ℕ) (hk : k < 32) : Vec F S32768 .f32 := fun j =>
  X (Shape.Idx.ofFin ⟨32768 * k + (j 0).val, by have : (j 0).val < 32768 := (j 0).isLt; omega⟩)

/-- What step `k` loads. -/
theorem load_eq (k : Fin k0_t1_loop.trips) (inb) (g : Vec F S32768 .f32) (h : 16 * k.val + 16 ≤ 32768) :
    View.readAt (Elt F) (bX).view (Rect.unit (s := S32768) (k0_off2 k) ![16] inb).toLoadRect g = stepIn g k.val h := by
  funext l
  have e : k0_off2 k 0 = 16 * k.val := by rw [k0_off2_eq]; rfl
  refine congrArg g (funext fun (a : Fin 1) => ?_)
  obtain rfl : a = 0 := Subsingleton.elim _ _
  refine Fin.ext ?_
  show k0_off2 k 0 + 1 * (l 0).val = 16 * k.val + (l 0).val
  rw [e, Nat.one_mul]

/-- Step `q` of a tile's chunk is a step of the whole array. -/
theorem stepIn_mine (t : ℕ) (ht : t < 32) (q : ℕ) (h : 16 * q + 16 ≤ 32768) :
    stepIn (mine X t ht) q h = stepIn X (2048 * t + q) (by omega) := by
  funext l
  exact congrArg X (congrArg Shape.Idx.ofFin (Fin.ext (by show 32768 * t + (16 * q + (l 0).val) = 16 * (2048 * t + q) + (l 0).val; omega)))

/-- Storing step `k`'s sixteen values over a buffer done up to there leaves it done up to the next. -/
theorem store_done (k : Fin k0_t1_loop.trips) (inb) (t : ℕ) (ht : t < 32) (f : Vec F S32768 .f32) (w : FVec F S16 .f32) (h : 16 * k.val + 16 ≤ 32768)
    (hw : w = stepV (scaleV Sv) (shiftV Sv) Tv (stepIn (mine X t ht) k.val h))
    (hf : ∀ j : S32768.Idx, (j 0).val < 16 * k.val → f j = mine (outV X Sv Tv) t ht j) (j : S32768.Idx) (hj : (j 0).val < 16 * (k.val + 1)) :
    (bO).view.writes (Elt F) f [⟨Rect.unit (s := S32768) (k0_off3 k) ![16] inb, w⟩] j = mine (outV X Sv Tv) t ht j := by
  by_cases hlt : (j 0).val < 16 * k.val
  · refine Eq.trans ?_ (hf j hlt)
    exact View.read_writes_cons_unit_of_not_mem (bO).view f inb w [] j (k0_off3_eq k) (0 : Fin 1) (.inl hlt)
  · have hl : (j 0).val - 16 * k.val < 16 := by omega
    refine Eq.trans (View.read_writes_cons_unit_of_mem (bO).view f inb w [] j (Shape.Idx.ofFin ⟨(j 0).val - 16 * k.val, hl⟩) (k0_off3_eq k) ?_) ?_
    · intro a
      obtain rfl : a = (0 : Fin 1) := Subsingleton.elim _ _
      show (j 0).val = 16 * k.val + ((j 0).val - 16 * k.val)
      omega
    · rw [hw, stepIn_mine]
      refine (outV_at X Sv Tv _ (2048 * t + k.val) _ _ ?_).symm
      show 32768 * t + (j 0).val = 16 * (2048 * t + k.val) + ((j 0).val - 16 * k.val)
      omega

/-- The loop before step `k`: the two scratch inputs as they are, and the first `16 k` elements of the output scratch done. -/
def inv (k : ℕ) (_ : PUnit) : sProp 𝕄 :=
  iprop(((bX).view.loc (V d (cV L) (jV L)) ↦{fullShare} mine X (tileNo L) (tileNo_lt L))
    ∗ ((bT).view.loc (V d (cV L) (jV L)) ↦{fullShare} Tv)
    ∗ ∃ f : Vec F S32768 .f32, ⌜∀ j : S32768.Idx, (j 0).val < 16 * k → f j = mine (outV X Sv Tv) (tileNo L) (tileNo_lt L) j⌝
      ∗ (bO).view.loc (V d (cV L) (jV L)) ↦{fullShare} f)

set_option maxHeartbeats 4000000 in
/-- One step of the loop. -/
theorem trip (k : Fin k0_t1_loop.trips) :
    inv X Sv Tv d L k.val ⟨⟩
      ⊢ wp frame (wpE (defs₀ (F := F)) 𝒱₀ (V d (cV L) (jV L)) none) Set.univ
          (k0_t1_body L xV (Memref.isWhole_whole _) sV (Memref.isWhole_whole _) tV (Memref.isWhole_whole _) oV (Memref.isWhole_whole _)
            bS (Memref.isWhole_whole _) bT (Memref.isWhole_whole _) bX (Memref.isWhole_whole _) bO (Memref.isWhole_whole _)
            cc0_scoped0 cc0_scoped1 cc0_scoped2 cc0_scoped3 (scaleV Sv) (shiftV Sv) (k0_pay10 k0_pay5) k ⟨⟩)
          fun r => inv X Sv Tv d L (k.val + 1) r := by
  unfold k0_t1_body
  simp only [SparseCore.vectorLoadIdx]
  unfold inv
  iintro ⟨Hx, Ht, %f, %hf, Ho⟩
  have h3 (x : FVec F S16 .f32) : k0_chk3 (addi (k0_pay2 (scaleV Sv) (shiftV Sv) x) (k0_pay10 k0_pay5)) := chk3 _ _ x
  have h4 (x : FVec F S16 .f32) : k0_chk4 (k0_pay3 (addi (k0_pay2 (scaleV Sv) (shiftV Sv) x) (k0_pay10 k0_pay5))) := chk4 _ _ x
  sl_exec (disch := first | sl_exact h3 _ | sl_exact h4 _)
  have hk : 16 * k.val + 16 ≤ 32768 := by have : k.val < 2048 := k.isLt; omega
  sl_step
  isplitl [Hx]; · iexact Hx
  isplitl [Ht]; · iexact Ht
  iexists _; isplitr
  swap; · iexact Ho
  ipureintro
  refine store_done X Sv Tv k _ _ _ _ _ hk ?_ hf
  have hT : View.readAt (Elt F) (bT).view (LoadRect.whole S144) Tv = Tv := Memref.readAt_whole _ _ _
  rw [hT, load_eq _ _ _ hk]
  rfl

/-- The chunk the tile is sent is its chunk of the input. -/
theorem read_xK : (xK L).view.read (Elt F) X = mine X (tileNo L) (tileNo_lt L) := by
  funext j
  have e : k0_off1 L 0 = 65536 * (L 1).val + 32768 * (L 0).val := by rw [k0_off1_eq]; rfl
  refine congrArg X (funext fun (a : Fin 1) => ?_)
  obtain rfl : a = 0 := Subsingleton.elim _ _
  refine Fin.ext ?_
  show k0_off1 L 0 + 1 * (j 0).val = 32768 * (2 * (L 1).val + (L 0).val) + (j 0).val
  rw [e]; omega

/-- The chunk of the result after the tile sends a buffer `f` holding its values. -/
theorem write_oK (fo : Vec F S1048576 .f32) (f : Vec F S32768 .f32) (g : Vec F S1048576 .f32)
    (hf : ∀ j : S32768.Idx, f j = mine g (tileNo L) (tileNo_lt L) j) (n : S1048576.Idx) (hn : n ∈ chunk (tileNo L)) :
    (oK L).view.writes (Elt F) fo [⟨Rect.whole S32768, f⟩] n = g n := by
  have e : k0_off4 L 0 = 65536 * (L 1).val + 32768 * (L 0).val := by rw [k0_off4_eq]; rfl
  have hn' : (n 0).val / 32768 = 2 * (L 1).val + (L 0).val := (mem_chunk _ _).mp hn
  obtain ⟨x, hx0, hx⟩ : ∃ x : S32768.Idx, (x 0).val = (n 0).val % 32768 ∧ (oK L).view.emb x = n := by
    refine ⟨Shape.Idx.ofFin ⟨(n 0).val % 32768, Nat.mod_lt _ (by decide)⟩, rfl, funext fun (a : Fin 1) => ?_⟩
    obtain rfl : a = 0 := Subsingleton.elim _ _
    refine Fin.ext ?_
    show k0_off4 L 0 + 1 * ((n 0).val % 32768) = (n 0).val
    rw [e]; omega
  have h : (oK L).view.read (Elt F) ((oK L).view.writes (Elt F) fo [⟨Rect.whole S32768, f⟩]) x = f x := by
    rw [View.read_writes_whole]
  rw [View.read_apply, hx] at h
  refine Eq.trans ((cast_eq _ _).symm.trans h) ((hf x).trans ?_)
  refine congrArg g (Eq.trans (congrArg Shape.Idx.ofFin (Fin.ext ?_)) (Shape.Idx.eq_ofFin n).symm)
  show 32768 * (2 * (L 1).val + (L 0).val) + (x 0).val = (n 0).val
  rw [hx0]; omega

/-- A block into which the tile's outputs were copied is that block of the whole flat result. -/
theorem pts_done (fo : Buf (Elt F) (oLoc d)) (f : Vec F S32768 .f32) (g : Vec F S1048576 .f32)
    (hf : ∀ j : S32768.Idx, f j = mine g (tileNo L) (tileNo_lt L) j) :
    (oLoc d ↦[chunk (tileNo L)]{fullShare} (oK L).view.writes (Elt F) fo [⟨Rect.whole S32768, f⟩] : sProp 𝕄)
      = oLoc d ↦[chunk (tileNo L)]{fullShare} g :=
  pointsTo_congr fun n hn => write_oK L fo f g hf n hn

set_option maxHeartbeats 4000000 in
/-- The task of tile `L`: from what it is handed it runs to its end, and brings back its chunk of the result at the values. -/
theorem tile_body (hF : (K (F := F)).Facts) (O : CellTallies nD τ sig (HIx 1)) (W : Waits sig (HIx 1)) (hO : ∀ g, O g none = 0) :
    iprop(levAts (K (F := F)).L (K (F := F)).lev ∗ emp ∗ tileIn X Sv Tv d (tileNo L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__interp_sc L xV (Memref.isWhole_whole _) sV (Memref.isWhole_whole _) tV (Memref.isWhole_whole _) oV (Memref.isWhole_whole _)
            bS (Memref.isWhole_whole _) bT (Memref.isWhole_whole _) bX (Memref.isWhole_whole _) bO (Memref.isWhole_whole _)
            cc0_scoped0 cc0_scoped1 cc0_scoped2 cc0_scoped3)
          fun _ => iprop(tileOut X Sv Tv d (tileNo L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__interp_sc_eq_skeleton]; unfold cc0__interp_sc_skel
  simp only [k0_part1_eq_skeleton]; unfold k0_part1_skel
  simp only [SparseCore.vectorLoadIdx]
  rw [(K (F := F)).scopedBufs_V hF d (cV L) (jV L), SparseCore.Cfg.scopedSems0_V (Val := Elt F) d (cV L) (jV L), cells_eq, bufs_eq]
  unfold tileIn tileOut
  iintro ⟨#Hlv, -, ⟨Hx, Hs, Ht, %fo, Ho⟩, ⟨⟨%g0, Hb0⟩, ⟨%g1, Hb1⟩, ⟨%g2, Hb2⟩, ⟨%g3, Hb3⟩, Hbufs⟩, ⟨Hc0, Hc1, Hc2, Hc3, Hcells⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _).symm) $$ Hx
  ihave Ho' := (Entails.of_eq (pts_oK (F := F) d L _).symm) $$ Ho
  ihave Hs' := (Entails.of_eq (pts_sV (F := F) d L _ _).symm) $$ Hs
  ihave Ht' := (Entails.of_eq (pts_tV (F := F) d L _ _).symm) $$ Ht
  ihave Hb0' := (Entails.of_eq (pts_bS (F := F) d L _).symm) $$ Hb0
  ihave Hb1' := (Entails.of_eq (pts_bT (F := F) d L _).symm) $$ Hb1
  ihave Hb2' := (Entails.of_eq (pts_bX (F := F) d L _).symm) $$ Hb2
  ihave Hb3' := (Entails.of_eq (pts_bO (F := F) d L _).symm) $$ Hb3
  sl_exec (disch := first | sl_exact chk1 | sl_exact chk2)
  have hS : View.write (Elt F) (bS).view g0 (tile_body.sl.dma0 Sv) Finset.univ = Sv := by
    rw [View.write_whole_univ]; rfl
  have hT : View.write (Elt F) (bT).view g1 (tile_body.sl.dma0_1 Tv) Finset.univ = Tv := by
    rw [View.write_whole_univ]; rfl
  have hX : View.write (Elt F) (bX).view g2 (tile_body.sl.dma0_2 X L) Finset.univ = mine X (tileNo L) (tileNo_lt L) := by
    rw [View.write_whole_univ]; exact read_xK X L
  have hS' : View.readAt (Elt F) (bS).view (LoadRect.whole S16) Sv = Sv := Memref.readAt_whole _ _ _
  rw [hS, hT, hX, hS']
  sl_for (inv X Sv Tv d L) $$ [Hb1' Hb2' Hb3']
  case region =>
    intro k _
    exact trip X Sv Tv d L k
  · unfold inv
    isplitl [Hb2']; · iexact Hb2'
    isplitl [Hb1']; · iexact Hb1'
    iexists g3; isplitr
    swap; · iexact Hb3'
    ipureintro; intro j hj; exact absurd hj (by rw [Nat.mul_zero]; exact Nat.not_lt_zero _)
  iintro %_ HI
  unfold inv
  icases HI with ⟨Hb2', Hb1', %f, %hf, Hb3'⟩
  sl_exec
  sl_step
  have hf' : ∀ j : S32768.Idx, f j = mine (outV X Sv Tv) (tileNo L) (tileNo_lt L) j := fun j => hf j (by
    have : (j 0).val < 32768 := (j 0).isLt
    have e : Scf.trips k0_t1_loop.lb k0_t1_loop.ub k0_t1_loop.st = 2048 := rfl
    omega)
  isplitl [Hx' Hs' Ht' Ho']
  · isplitl [Hx']; · iapply (Entails.of_eq (pts_xK (F := F) d L _)); iexact Hx'
    isplitl [Hs']; · iexact Hs'
    isplitl [Ht']; · iexact Ht'
    ihave Ho := (Entails.of_eq (pts_oK (F := F) d L _)) $$ Ho'
    iapply (Entails.of_eq (pts_done d L fo f (outV X Sv Tv) hf'))
    iexact Ho
  isplitl [Hb0' Hb1' Hb2' Hb3' Hbufs]
  · isplitl [Hb0']; · iexists _; iexact Hb0'
    isplitl [Hb1']; · iexists _; iexact Hb1'
    isplitl [Hb2']; · iexists _; iexact Hb2'
    isplitl [Hb3']; · iexists _; iexact Hb3'
    iexact Hbufs
  isplitl [Hc0 Hc1 Hc2 Hc3 Hcells]
  · isplitl [Hc0]; · iexact Hc0
    isplitl [Hc1]; · iexact Hc1
    isplitl [Hc2]; · iexact Hc2
    isplitl [Hc3]; · iexact Hc3
    iexact Hcells
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact .inl hp

end Task

end Cert.Proof.KernelIdeal

end
-- ==== Proof.Run.lean ====
/-
  The whole program's run: @main lays the arrays out flat, hands each of the 32 tiles its chunk, and gives the result
  its shape back. From any launch memory every weakly fair execution ends, the arguments unchanged, every semaphore at
  zero, the result at `Rv`.
-/
module

public import proofs.«01_k».proof.Defs
public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.SL.BI.BigOpNat
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱 : Variants := 𝒱₀.lift
abbrev v₀ : 𝒱.V := Sum.inl none

local notation "𝕄" => MT nD τ sig (HIx 1) (Elt F) ℕ UU ℕ

abbrev EH : Emb UH (MT nD τ sig (HIx 1) (Elt F) ℕ UU ℕ) := embL

/-- The launch's side conditions hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable [FloatOps F]
variable (m : (ℓ : Loc nD τ sig) → Buf (Elt F) ℓ) (ρ : Dev nD → PrngReg)

/-! ## What the call is given and what it gives back -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v5

/-- The flat input, the two flat rows, the flat padded table. -/
def Xof (a : Vec F S64x2048x8 .f32) : Vec F S1048576 .f32 := shapeCast S1048576 a shapeCasts_S64x2048x8_S1048576
/-- The training rows laid end to end. -/
def Sof (a : Vec F S2x8 .f32) : Vec F S16 .f32 := shapeCast S16 a shapeCasts_S2x8_S16
/-- The table laid end to end and padded to 144 elements. -/
def Tof (a : Vec F S8x17 .f32) : Vec F S144 .f32 :=
  pad S144 ![0] ![8] ![0] (shapeCast S136 a shapeCasts_S8x17_S136) (sitofp .f32 (constantI S_ 32 0#32)) pads_S136_S144_080 h_S_
/-- The program's result as a function of its arguments. -/
def Rof (a : Vec F S64x2048x8 .f32) (b : Vec F S2x8 .f32) (c : Vec F S8x17 .f32) : Vec F S64x2048x8 .f32 :=
  shapeCast S64x2048x8 (outV (Xof a) (Sof b) (Tof c)) shapeCasts_S1048576_S64x2048x8

abbrev Xd (d : Dev nD) : Vec F S1048576 .f32 := Xof (m (a0Loc d))
abbrev Sd (d : Dev nD) : Vec F S16 .f32 := Sof (m (a1Loc d))
abbrev Td (d : Dev nD) : Vec F S144 .f32 := Tof (m (a2Loc d))
abbrev Rv (d : Dev nD) : Vec F S64x2048x8 .f32 := Rof (m (a0Loc d)) (m (a1Loc d)) (m (a2Loc d))

/-- What a tile is given can be handed over. -/
instance tileIn_storable (d : Dev nD) (k : ℕ) : BI.Storable (upEmb : UEmb _ 𝕄) (tileIn (Xd m d) (Sd m d) (Td m d) d k) := by
  unfold tileIn; infer_instance
/-- What a tile gives back can be handed over. -/
instance tileOut_storable (d : Dev nD) (k : ℕ) : BI.Storable (upEmb : UEmb _ 𝕄) (tileOut (Xd m d) (Sd m d) (Td m d) d k) := by
  unfold tileOut; infer_instance

/-- Tile `i` of SparseCore `c` works on chunk `2 i + c`. -/
def P : (K (F := F)).Pay (nD := nD) (Val := Elt F) (Name := ℕ) (U := UU) where
  st := fun q d c => match q with | 0 => bigSep Finset.univ fun i : Fin 16 => tileIn (Xd m d) (Sd m d) (Td m d) d (2 * i.val + c.val)
  dn := fun q d c => match q with | 0 => bigSep Finset.univ fun i : Fin 16 => tileOut (Xd m d) (Sd m d) (Td m d) d (2 * i.val + c.val)
  go := fun q d c i => match q with | 0 => tileIn (Xd m d) (Sd m d) (Td m d) d (2 * i.val + c.val)
  td := fun q d c i => match q with | 0 => tileOut (Xd m d) (Sd m d) (Td m d) d (2 * i.val + c.val)
  x := fun _ _ => iprop(emp)

/-- Everything the handshakes carry can be handed over. -/
instance P_storable : (P m).IsStorable where
  st q d c := match q with | 0 => (inferInstance : BI.Storable (upEmb : UEmb _ 𝕄) (bigSep Finset.univ fun i : Fin 16 => tileIn (Xd m d) (Sd m d) (Td m d) d (2 * i.val + c.val)))
  dn q d c := match q with | 0 => (inferInstance : BI.Storable (upEmb : UEmb _ 𝕄) (bigSep Finset.univ fun i : Fin 16 => tileOut (Xd m d) (Sd m d) (Td m d) d (2 * i.val + c.val)))
  go q d c i := match q with | 0 => (inferInstance : BI.Storable (upEmb : UEmb _ 𝕄) (tileIn (Xd m d) (Sd m d) (Td m d) d (2 * i.val + c.val)))
  td q d c i := match q with | 0 => (inferInstance : BI.Storable (upEmb : UEmb _ 𝕄) (tileOut (Xd m d) (Sd m d) (Td m d) d (2 * i.val + c.val)))

/-! ## The tile's obligation -/

/-- The grid place of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- The tile's task is the kernel's body at its grid place. -/
theorem defs₀_vector (c : Fin τ.nSC) (s : Fin τ.nSub) :
    defs₀ (F := F) (.scVector c s) 0 ()
      = SparseCore.onTile hcore0 hsub0 (fun c s => cc0__interp_sc (coordsV c s)
          xV (Memref.isWhole_whole _) sV (Memref.isWhole_whole _) tV (Memref.isWhole_whole _) oV (Memref.isWhole_whole _)
          bS (Memref.isWhole_whole _) bT (Memref.isWhole_whole _) bX (Memref.isWhole_whole _) bO (Memref.isWhole_whole _)
          cc0_scoped0 cc0_scoped1 cc0_scoped2 cc0_scoped3) ⟨⟩ c s := rfl

omit [FloatOps F] in
/-- A tile's end, with the owed tallies unchanged, in the form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task meets its obligation: from what it is given it ends with what it gives back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (Xd m d) (Sd m d) (Td m d) d (coordsV ⟨_, hci.1⟩ ⟨_, hci.2⟩) hF O W hO).trans (wp_mono frame _ _ fun _ => obl_post)

/-- A SparseCore's operands are its tiles' operands, and its results are its tiles' results. -/
theorem vecSplit : (K (F := F)).VecSplit' (P m) 0 := by
  intro d c
  show (bigSep Finset.univ fun i : Fin 16 => tileIn (Xd m d) (Sd m d) (Td m d) d (2 * i.val + c.val)) ⊢ |={Set.univ}=> iprop(
      (bigSep Finset.univ fun i : Fin 16 => tileIn (Xd m d) (Sd m d) (Td m d) d (2 * i.val + c.val))
      ∗ ((bigSep Finset.univ fun i : Fin 16 => tileOut (Xd m d) (Sd m d) (Td m d) d (2 * i.val + c.val))
        -∗ bigSep Finset.univ fun i : Fin 16 => tileOut (Xd m d) (Sd m d) (Td m d) d (2 * i.val + c.val)))
  iintro H; imodintro
  isplitl [H]; · iexact H
  iintro H; iexact H

/-! ## The arrays dealt to the tiles -/

omit [FloatOps F] in
/-- The tiles' blocks do not overlap. -/
theorem chunks_disjoint : ∀ i ∈ Finset.range 32, ∀ j ∈ Finset.range 32, i ≠ j → Disjoint (chunk i) (chunk j) :=
  fun i _ j _ h => Finset.disjoint_left.2 fun n hi hj => h (((mem_chunk i n).1 hi).symm.trans ((mem_chunk j n).1 hj))

omit [FloatOps F] in
/-- The tiles' blocks make up the whole flat array. -/
theorem chunks_cover : (Finset.range 32).biUnion chunk = Finset.univ := by
  refine Finset.eq_univ_iff_forall.2 fun n => Finset.mem_biUnion.2 ⟨(n 0).val / 32768, ?_, (mem_chunk _ n).2 rfl⟩
  have : (n 0).val < 1048576 := (n 0).isLt
  exact Finset.mem_range.2 (by omega)

omit [FloatOps F] in
/-- Holding the flat input is holding every tile's block of it. -/
theorem xPts_chunks (d : Dev nD) (f : Buf (Elt F) (xLoc d)) :
    (xLoc d ↦{fullShare} f : sProp 𝕄) = bigSep (Finset.range 32) fun k => xLoc d ↦[chunk k]{fullShare} f := by
  rw [← pointsTo_biUnion (Finset.range 32) (ℓ := xLoc d) chunk chunks_disjoint, chunks_cover]
omit [FloatOps F] in
/-- Holding the flat result is holding every tile's block of it. -/
theorem oPts_chunks (d : Dev nD) (f : Buf (Elt F) (oLoc d)) :
    (oLoc d ↦{fullShare} f : sProp 𝕄) = bigSep (Finset.range 32) fun k => oLoc d ↦[chunk k]{fullShare} f := by
  rw [← pointsTo_biUnion (Finset.range 32) (ℓ := oLoc d) chunk chunks_disjoint, chunks_cover]

omit [FloatOps F] in
/-- An array at the full share, as the first `n` tiles' shares and what is left. -/
theorem pts_parts (ℓ : Loc nD τ sig) (f : Buf (Elt F) ℓ) : ∀ n : ℕ,
    (ℓ ↦{fullShare} f : sProp 𝕄) ⊢ iprop((bigSep (Finset.range n) fun k => ℓ ↦{part k} f) ∗ ℓ ↦{left n} f)
  | 0 => by
    rw [Finset.range_zero, bigSep_empty]
    iintro H
    isplitr; · iempintro
    iexact H
  | n + 1 => by
    refine (pts_parts ℓ f n).trans ?_
    rw [BI.bigSep_range_succ n]
    iintro ⟨H, Hl⟩
    ihave Hs := (pointsTo_share (PosShare.mem_left_op_right (left n))).1 $$ Hl
    icases Hs with ⟨H1, H2⟩
    isplitl [H H1]
    · isplitl [H1]; · iexact H1
      iexact H
    iexact H2

omit [FloatOps F] in
/-- One resource per SparseCore and tile is one per tile number. -/
theorem bigSep_tiles (Φ : ℕ → sProp 𝕄) :
    (bigSep Finset.univ fun c : Fin 2 => bigSep Finset.univ fun i : Fin 16 => Φ (2 * i.val + c.val)) = bigSep (Finset.range 32) Φ := by
  rw [← SparseCore.bigSep_product Finset.univ Finset.univ (fun p : Fin 2 × Fin 16 => Φ (2 * p.2.val + p.1.val)),
    ← SparseCore.bigSep_image_of_injOn (f := fun p : Fin 2 × Fin 16 => 2 * p.2.val + p.1.val) ?_ Φ]
  · exact congrArg (fun s => bigSep s Φ) (show Finset.image (fun p : Fin 2 × Fin 16 => 2 * p.2.val + p.1.val) (Finset.univ ×ˢ Finset.univ) = Finset.range 32 by decide)
  · rintro ⟨a, b⟩ - ⟨a', b'⟩ - h
    have h : 2 * b.val + a.val = 2 * b'.val + a'.val := h
    exact Prod.ext (Fin.ext (by show a.val = a'.val; omega)) (Fin.ext (by show b.val = b'.val; omega))

/-- What all the SparseCores are given is what the 32 tiles are given. -/
theorem st0_eq (d : Dev nD) : (bigSep Finset.univ fun c : Fin ((K (F := F)).nCore 0) => (P m).st 0 d c)
    = bigSep (Finset.range 32) fun k => tileIn (Xd m d) (Sd m d) (Td m d) d k := bigSep_tiles _
/-- What all the SparseCores give back is what the 32 tiles give back. -/
theorem dn0_eq (d : Dev nD) : (bigSep Finset.univ fun c : Fin ((K (F := F)).nCore 0) => (P m).dn 0 d c)
    = bigSep (Finset.range 32) fun k => tileOut (Xd m d) (Sd m d) (Td m d) d k := bigSep_tiles _

omit [FloatOps F] in
/-- A block with given contents is a block with some contents. -/
theorem oPts_some (d : Dev nD) (k : ℕ) (f : Buf (Elt F) (oLoc d)) :
    (oLoc d ↦[chunk k]{fullShare} f : sProp 𝕄) ⊢ iprop(∃ g, oLoc d ↦[chunk k]{fullShare} g) := by
  iintro H; iexists f; iexact H

/-- The four arrays whole, dealt to the tiles. -/
theorem deal (d : Dev nD) (f : Buf (Elt F) (oLoc d)) :
    iprop((xLoc d ↦{fullShare} Xd m d) ∗ (sLoc d ↦{fullShare} Sd m d) ∗ (tLoc d ↦{fullShare} Td m d) ∗ oLoc d ↦{fullShare} f)
      ⊢ (bigSep (Finset.range 32) fun k => tileIn (Xd m d) (Sd m d) (Td m d) d k : sProp 𝕄) := by
  have hm : (bigSep (Finset.range 32) fun k => oLoc d ↦[chunk k]{fullShare} f)
      ⊢ (bigSep (Finset.range 32) fun k => iprop(∃ f, oLoc d ↦[chunk k]{fullShare} f) : sProp 𝕄) :=
    BI.bigSep_mono fun k _ => oPts_some d k f
  unfold tileIn
  rw [bigSep_sep', bigSep_sep', bigSep_sep']
  iintro ⟨Hx, Hs, Ht, Ho⟩
  isplitl [Hx]; · iapply (Entails.of_eq (xPts_chunks (F := F) d _)); iexact Hx
  isplitl [Hs]
  · ihave H := (pts_parts (sLoc d) (Sd m d) 32) $$ Hs
    icases H with ⟨H, -⟩
    iexact H
  isplitl [Ht]
  · ihave H := (pts_parts (tLoc d) (Td m d) 32) $$ Ht
    icases H with ⟨H, -⟩
    iexact H
  ihave Ho' := (Entails.of_eq (oPts_chunks (F := F) d f)) $$ Ho
  iapply hm
  iexact Ho'

/-- The tiles' chunks of the result are the whole of it. -/
theorem collect (d : Dev nD) :
    (bigSep (Finset.range 32) fun k => tileOut (Xd m d) (Sd m d) (Td m d) d k : sProp 𝕄)
      ⊢ oLoc d ↦{fullShare} outV (Xd m d) (Sd m d) (Td m d) := by
  unfold tileOut
  rw [bigSep_sep', bigSep_sep', bigSep_sep', oPts_chunks]
  iintro ⟨-, -, -, Ho⟩
  iexact Ho

/-! ## The launch element of the certificate's ghost state -/

/-- The launch's starting ghost state. -/
def u₀ : UU := (initOf (K (F := F)).hsCells (K (F := F)).hsToks, 1)

omit [FloatOps F] in
/-- Any number of empty resources is the empty resource. -/
theorem bigSep_emp' {I : Type} (s : Finset I) : (bigSep s fun _ => iprop(emp)) = (iprop(emp) : sProp 𝕄) := bigSep_emp_const s

/-- The starting ghost state gives the launch its cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev cc' : DevRef τ sig := Proc.devRef .tc (main_c : Ref sig .tc)
abbrev wp' : DevRef τ sig := Proc.devRef .tc (main_call0_v0 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)

abbrev op1 : HloOp τ sig (Elt F) := StableHlo.reshape main_arg0 main_v0 (rfl : (.f32 : EltTy) = .f32) shapeCasts_S64x2048x8_S1048576
abbrev op2 : HloOp τ sig (Elt F) := StableHlo.reshape main_arg1 main_v1 (rfl : (.f32 : EltTy) = .f32) shapeCasts_S2x8_S16
abbrev op3 : HloOp τ sig (Elt F) := StableHlo.reshape main_arg2 main_v2 (rfl : (.f32 : EltTy) = .f32) shapeCasts_S8x17_S136
abbrev op4 : HloOp τ sig (Elt F) := StableHlo.nullary main_c (constantI S_ 32 0#32)
abbrev op5 : HloOp τ sig (Elt F) := StableHlo.unary main_c main_call0_v0 (sitofp .f32)
abbrev op6 : HloOp τ sig (Elt F) := StableHlo.binary main_v2 main_call0_v0 main_v3 (fun x v => pad S144 ![0] ![8] ![0] x v pads_S136_S144_080 h_S_)
abbrev op7 : HloOp τ sig (Elt F) := StableHlo.reshape main_v4 main_v5 (rfl : (.f32 : EltTy) = .f32) shapeCasts_S1048576_S64x2048x8

/-- The TensorCore's arrays, all unscoped; and the two the last operation is over. -/
abbrev S11 : Finset (DevRef τ sig) := {a0', a1', a2', w0', w1', w2', cc', wp', w3', w4', w5'}
abbrev S2' : Finset (DevRef τ sig) := {w4', w5'}

omit [FloatOps F] in
/-- Holding the arrays of the host code is holding each one. -/
theorem held_S11 (d : Dev nD) (W : Valuation τ sig (Elt F)) :
    (held (T d) S11 W : sProp 𝕄)
      = iprop((a0Loc d ↦{fullShare} W a0') ∗ (a1Loc d ↦{fullShare} W a1') ∗ (a2Loc d ↦{fullShare} W a2')
          ∗ (xLoc d ↦{fullShare} W w0') ∗ (sLoc d ↦{fullShare} W w1') ∗ ((SparseCore.T d).loc main_v2 ↦{fullShare} W w2')
          ∗ ((SparseCore.T d).loc main_c ↦{fullShare} W cc') ∗ ((SparseCore.T d).loc main_call0_v0 ↦{fullShare} W wp')
          ∗ (tLoc d ↦{fullShare} W w3') ∗ (oLoc d ↦{fullShare} W w4') ∗ rLoc d ↦{fullShare} W w5') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
/-- Holding the kernel's flat result and the final array is holding each one. -/
theorem held_S2 (d : Dev nD) (W : Valuation τ sig (Elt F)) :
    (held (T d) S2' W : sProp 𝕄) = iprop((oLoc d ↦{fullShare} W w4') ∗ rLoc d ↦{fullShare} W w5') := by
  unfold held S2'
  rw [SparseCore.bigSep_insert' (by decide), bigSep_singleton]

omit [FloatOps F] in
/-- The host's arrays are the eleven that the program names. -/
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (xLoc d ↦{fullShare} W main_v0) ∗ (sLoc d ↦{fullShare} W main_v1) ∗ ((SparseCore.T d).loc main_v2 ↦{fullShare} W main_v2)
          ∗ ((SparseCore.T d).loc main_c ↦{fullShare} W main_c) ∗ ((SparseCore.T d).loc main_call0_v0 ↦{fullShare} W main_call0_v0)
          ∗ (tLoc d ↦{fullShare} W main_v3) ∗ (oLoc d ↦{fullShare} W main_v4) ∗ rLoc d ↦{fullShare} W main_v5) := by
  unfold unscopedBufs
  rw [show (Finset.univ.filter fun b : Ref sig .tc => ¬ b.isScoped)
      = {main_arg0, main_arg1, main_arg2, main_v0, main_v1, main_v2, main_c, main_call0_v0, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the valuation after each operation before the call. -/
def V0 (d : Dev nD) : Valuation τ sig (Elt F) := fun b => m (d, b)
abbrev V1 (d : Dev nD) : Valuation τ sig (Elt F) := (op1 (F := F)).result (V0 m d)
abbrev V2 (d : Dev nD) : Valuation τ sig (Elt F) := (op2 (F := F)).result (V1 m d)
abbrev V3 (d : Dev nD) : Valuation τ sig (Elt F) := (op3 (F := F)).result (V2 m d)
abbrev V4 (d : Dev nD) : Valuation τ sig (Elt F) := (op4 (F := F)).result (V3 m d)
abbrev V5 (d : Dev nD) : Valuation τ sig (Elt F) := (op5 (F := F)).result (V4 m d)
abbrev V6 (d : Dev nD) : Valuation τ sig (Elt F) := (op6 (F := F)).result (V5 m d)

/-- At the start the host holds its eleven arrays with their first contents. -/
theorem unscoped_held (d : Dev nD) : (unscopedBufs d (fun b => m ((SparseCore.T d).loc b)) : sProp 𝕄) = held (T d) S11 (V0 m d) := by
  rw [unscopedBufs_eq, held_S11]; rfl

/-- Before the launch the first argument is unchanged. -/
theorem V6_a0 (d : Dev nD) : V6 m d a0' = m (a0Loc d) := by

  after_results_simp; rfl
/-- Before the launch the second argument is unchanged. -/
theorem V6_a1 (d : Dev nD) : V6 m d a1' = m (a1Loc d) := by after_results_simp; rfl
/-- Before the launch the third argument is unchanged. -/
theorem V6_a2 (d : Dev nD) : V6 m d a2' = m (a2Loc d) := by after_results_simp; rfl
/-- Before the launch the flat input holds the first argument laid end to end. -/
theorem V6_x (d : Dev nD) : V6 m d w0' = Xd m d := by after_results_simp; rfl
/-- Before the launch the flat rows hold the second argument laid end to end. -/
theorem V6_s (d : Dev nD) : V6 m d w1' = Sd m d := by after_results_simp; rfl
/-- Before the launch the flat table holds the third argument laid end to end and padded. -/
theorem V6_t (d : Dev nD) : V6 m d w3' = Td m d := by after_results_simp; rfl

/-- The first reshape touches only the host's arrays. -/
theorem hop1 : (op1 (F := F)).bufs ⊆ S11 := show ({a0', w0'} : Finset (DevRef τ sig)) ⊆ S11 by decide
/-- The second reshape touches only the host's arrays. -/
theorem hop2 : (op2 (F := F)).bufs ⊆ S11 := show ({a1', w1'} : Finset (DevRef τ sig)) ⊆ S11 by decide
/-- The third reshape touches only the host's arrays. -/
theorem hop3 : (op3 (F := F)).bufs ⊆ S11 := show ({a2', w2'} : Finset (DevRef τ sig)) ⊆ S11 by decide
/-- The constant touches only the host's arrays. -/
theorem hop4 : (op4 (F := F)).bufs ⊆ S11 := show ({cc'} : Finset (DevRef τ sig)) ⊆ S11 by decide
/-- The conversion touches only the host's arrays. -/
theorem hop5 : (op5 (F := F)).bufs ⊆ S11 := show ({cc', wp'} : Finset (DevRef τ sig)) ⊆ S11 by decide
/-- The padding touches only the host's arrays. -/
theorem hop6 : (op6 (F := F)).bufs ⊆ S11 := show ({w2', wp', w3'} : Finset (DevRef τ sig)) ⊆ S11 by decide
/-- The last reshape touches only the flat and the final result. -/
theorem hop7 : (op7 (F := F)).bufs ⊆ S2' := show ({w4', w5'} : Finset (DevRef τ sig)) ⊆ S2' by decide

/-- The arrays before the call. -/
theorem held_V6 (d : Dev nD) :
    (held (T d) S11 (V6 m d) : sProp 𝕄)
      = iprop((a0Loc d ↦{fullShare} m (a0Loc d)) ∗ (a1Loc d ↦{fullShare} m (a1Loc d)) ∗ (a2Loc d ↦{fullShare} m (a2Loc d))
          ∗ (xLoc d ↦{fullShare} Xd m d) ∗ (sLoc d ↦{fullShare} Sd m d) ∗ ((SparseCore.T d).loc main_v2 ↦{fullShare} V6 m d w2')
          ∗ ((SparseCore.T d).loc main_c ↦{fullShare} V6 m d cc') ∗ ((SparseCore.T d).loc main_call0_v0 ↦{fullShare} V6 m d wp')
          ∗ (tLoc d ↦{fullShare} Td m d) ∗ (oLoc d ↦{fullShare} V6 m d w4') ∗ rLoc d ↦{fullShare} V6 m d w5') := by
  rw [held_S11, V6_a0, V6_a1, V6_a2, V6_x, V6_s, V6_t]

/-- The contents after the call. -/
abbrev V7 (d : Dev nD) : Valuation τ sig (Elt F) := Function.update (V6 m d) w4' (outV (Xd m d) (Sd m d) (Td m d))

/-- After the launch, before the last reshape, the two result arrays. -/
theorem held_V7 (d : Dev nD) :
    (held (T d) S2' (V7 m d) : sProp 𝕄)
      = iprop((oLoc d ↦{fullShare} outV (Xd m d) (Sd m d) (Td m d)) ∗ rLoc d ↦{fullShare} V6 m d w5') := by
  rw [held_S2, V7, Function.update_self, Function.update_of_ne (show w5' ≠ w4' by decide)]

/-- After the last reshape, the two result arrays. -/
theorem held_V8 (d : Dev nD) :
    (held (T d) S2' ((op7 (F := F)).result (V7 m d)) : sProp 𝕄)
      = iprop((oLoc d ↦{fullShare} (op7 (F := F)).result (V7 m d) w4') ∗ rLoc d ↦{fullShare} Rv m d) := by
  rw [held_S2, show (op7 (F := F)).result (V7 m d) w5' = Rv m d from
    (StableHlo.reshape_result _ _ _ _ _ _ _).trans (by rw [V7, Function.update_self]; rfl)]

/-- What @main leaves the claims: the arguments at their launch contents, the result at `Rv`. -/
abbrev FIN (d : Dev nD) : sProp 𝕄 :=
  iprop((a0Loc d ↦{fullShare} m (a0Loc d)) ∗ (a1Loc d ↦{fullShare} m (a1Loc d)) ∗ (a2Loc d ↦{fullShare} m (a2Loc d))
    ∗ rLoc d ↦{fullShare} Rv m d)

/-- The host program: from the launch's start it ends with the final array holding the result and its arguments unchanged. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, StableHlo.TRef.unary, StableHlo.TRef.binary, StableHlo.TRef.toBuf, StableHlo.TRef.ofBuf, cast_eq, wp_bind, wp_pure]
  iintro ⟨#Hctx, Hst, ⟨Hb, Hheld, Hts, -⟩, -⟩
  iapply (wp_hlo_within 𝒱 (SparseCore.T d) none Set.univ (op := op1) (S := S11) hop1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S11) hop2 (V := V1 m d)) $$ [Hb Hheld]
  · isplitl [Hb] <;> iassumption
  iintro ⟨Hb, Hheld⟩
  rw [wp_ret]; imodintro
  iapply (wp_hlo_within 𝒱 (SparseCore.T d) none Set.univ (op := op3) (S := S11) hop3 (V := V2 m d)) $$ [Hb Hheld]
  · isplitl [Hb] <;> iassumption
  iintro ⟨Hb, Hheld⟩
  rw [wp_ret]; imodintro
  iapply (wp_hlo_within 𝒱 (SparseCore.T d) none Set.univ (op := op4) (S := S11) hop4 (V := V3 m d)) $$ [Hb Hheld]
  · isplitl [Hb] <;> iassumption
  iintro ⟨Hb, Hheld⟩
  rw [wp_ret]; imodintro
  iapply (wp_hlo_within 𝒱 (SparseCore.T d) none Set.univ (op := op5) (S := S11) hop5 (V := V4 m d)) $$ [Hb Hheld]
  · isplitl [Hb] <;> iassumption
  iintro ⟨Hb, Hheld⟩
  rw [wp_ret]; imodintro
  iapply (wp_hlo_within 𝒱 (SparseCore.T d) none Set.univ (op := op6) (S := S11) hop6 (V := V5 m d)) $$ [Hb Hheld]
  · isplitl [Hb] <;> iassumption
  iintro ⟨Hb, Hheld⟩
  rw [wp_ret]; imodintro
  -- the call: the four arrays to the tiles and the result back
  ihave Hh := (Entails.of_eq (held_V6 (F := F) m d)) $$ Hheld
  icases Hh with ⟨Ha0, Ha1, Ha2, Hx, Hs, -, -, -, Ht, Ho, Hr⟩
  iapply ((K (F := F)).wp_run (D (F := F)) 𝒱 (EH := EH) (P := P m) κ d 0) $$ [Hst Hx Hs Ht Ho Hr Ha0 Ha1 Ha2 Hb Hts]
  isplitr; · iexact Hctx
  isplitl [Hst]; · iexact Hst
  isplitl [Hx Hs Ht Ho]
  · iapply (Entails.of_eq (st0_eq m d).symm)
    iapply (deal m d (V6 m d w4'))
    isplitl [Hx]; · iexact Hx
    isplitl [Hs]; · iexact Hs
    isplitl [Ht]; · iexact Ht
    iexact Ho
  iintro ⟨Hst, Hdn⟩
  ihave Hdn' := (Entails.of_eq (dn0_eq m d)) $$ Hdn
  ihave Ho := (collect m d) $$ Hdn'
  -- the result's shape
  iapply (wp_hlo_within 𝒱 (SparseCore.T d) none Set.univ (op := op7) (S := S2') hop7 (V := V7 m d)) $$ [Hb Ho Hr]
  · isplitl [Hb]; · iexact Hb
    iapply (Entails.of_eq (held_V7 (F := F) m d).symm)
    isplitl [Ho]; · iexact Ho
    iexact Hr
  iintro ⟨Hb, Hheld⟩
  ihave Hh := (Entails.of_eq (held_V8 (F := F) m d)) $$ Hheld
  icases Hh with ⟨-, Hr⟩
  rw [wp_ret]; imodintro; imodintro
  isplitl [Hst]; · iexact Hst
  isplitr [Hb Hts]
  · isplitl [Ha0]; · iexact Ha0
    isplitl [Ha1]; · iexact Ha1
    isplitl [Ha2]; · iexact Ha2
    iexact Hr
  isplitl [Hb] <;> iassumption

/-- What the claims read of device `d`'s final state. -/
def fq (d : Dev nD) (s' : Phys nD τ sig (Elt F)) : Prop :=
  s'.mem.mem (rLoc d) = Rv m d ∧ s'.mem.mem (a0Loc d) = m (a0Loc d) ∧ s'.mem.mem (a1Loc d) = m (a1Loc d) ∧ s'.mem.mem (a2Loc d) = m (a2Loc d)

set_option maxRecDepth 16384 in
/-- What the host ends with says what the final memory holds. -/
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := rLoc d) (I := Finset.univ) (q := fullShare) (f := Rv m d)) $$ [HSI Hr]
  · isplitl [HSI] <;> iassumption
  icases H with %hr
  ipureintro
  exact ⟨funext fun i => hr i (Finset.mem_univ i), funext fun i => h0 i (Finset.mem_univ i), funext fun i => h1 i (Finset.mem_univ i),
    funext fun i => h2 i (Finset.mem_univ i)⟩

/-! ## The program's run -/

/-- What a finished run satisfies: the final array holds the result, the arguments are unchanged, every semaphore counter is zero. -/
def QC : PUnit × MemSt nD τ sig (Elt F) → Prop := fun r =>
  (∀ c : Dev nD, r.2.mem (rLoc c) = Rv m c ∧ r.2.mem (a0Loc c) = m (a0Loc c) ∧ r.2.mem (a1Loc c) = m (a1Loc c) ∧ r.2.mem (a2Loc c) = m (a2Loc c))
    ∧ r.2.sem = fun _ => 0

/-- Every weakly fair execution from a launch memory ends with the result at `Rv`, the arguments unchanged and every
    semaphore counter at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Math.lean ====
/-
  The arithmetic the two programs share, over the extended reals: scaling an input and shifting it is the same number as
  subtracting the minimum, dividing by the span and multiplying by 16; and truncating that number to an integer and then
  clamping it is the same word as rounding it down, clamping it and then converting it.
-/
module

public import proofs.«01_k».proof.Proof.BitsRun
public import Idealize.ShloMosaic.PureOps.Ideal
public import Idealize.ShloMosaic.PureOps.Ideal.Laws
public import Idealize.ShloMosaic.Lib.StableHlo.Predicate
public import Idealize.ShloMosaic.Lib.ValueIdxCore

@[expose] public section

noncomputable section

namespace Cert.Proof.Math

open Idealize.ShloMosaic

/-! ## The literals -/

/-- The word `0x41800000` is the number 16. -/
theorem lit_16 : Ideal.ofBits .f32 0x41800000#32 = ((16 : ℝ) : EReal) := by
  simp [Ideal.ofBits, Ideal.ieee, -EReal.coe_mul]; norm_num

/-- The zero word is the number zero. -/
theorem lit_0 : Ideal.ofBits .f32 0x00000000#32 = ((0 : ℝ) : EReal) := by
  simp [Ideal.ofBits, Ideal.ieee, -EReal.coe_mul]

/-- The word `0x7F800000` is plus infinity. -/
theorem lit_top : Ideal.ofBits .f32 0x7F800000#32 = (⊤ : EReal) := by
  simp [Ideal.ofBits, Ideal.ieee]

/-- The word `0xFF800000` is minus infinity. -/
theorem lit_bot : Ideal.ofBits .f32 0xFF800000#32 = (⊥ : EReal) := by
  simp [Ideal.ofBits, Ideal.ieee]

/-! ## The position of an input among the bins -/

/-- With the minimum below the maximum, `x` times the scale plus the shift is `x` less the minimum, over the span, times 16. -/
theorem pos_eq (x mn mx : EReal) (h : mn < mx) :
    x * Ideal.div ((16 : ℝ) : EReal) (mx - mn) + (((0 : ℝ) : EReal) - mn) * Ideal.div ((16 : ℝ) : EReal) (mx - mn)
      = Ideal.div (x - mn) (mx - mn) * ((16 : ℝ) : EReal) := by
  have inf : mx - mn = ⊤ → x * Ideal.div ((16 : ℝ) : EReal) (mx - mn)
      + (((0 : ℝ) : EReal) - mn) * Ideal.div ((16 : ℝ) : EReal) (mx - mn)
      = Ideal.div (x - mn) (mx - mn) * ((16 : ℝ) : EReal) := by
    intro e
    rw [e]
    simp [Ideal.div]
  induction mn with
  | bot =>
    refine inf ?_
    induction mx with
    | bot => exact absurd h (lt_irrefl _)
    | top => rfl
    | coe b => rfl
  | top => exact absurd h not_top_lt
  | coe a =>
    induction mx with
    | bot => exact absurd h not_lt_bot
    | top => exact inf rfl
    | coe b =>
      have hab : a < b := EReal.coe_lt_coe_iff.mp h
      have hd : 0 < b - a := sub_pos.mpr hab
      have hs : Ideal.div ((16 : ℝ) : EReal) ((b : EReal) - (a : EReal)) = ((16 / (b - a) : ℝ) : EReal) := by
        rw [← EReal.coe_sub, Ideal.div, if_neg (by exact_mod_cast hd.ne'), ← EReal.coe_inv, ← EReal.coe_mul, div_eq_mul_inv]
      have hp : 0 < 16 / (b - a) := by positivity
      have hr : ∀ y : EReal, Ideal.div y ((b : EReal) - (a : EReal)) = y * (((b - a)⁻¹ : ℝ) : EReal) := fun y => by
        rw [← EReal.coe_sub, Ideal.div, if_neg (by exact_mod_cast hd.ne'), ← EReal.coe_inv]
      have hi : 0 < (b - a)⁻¹ := inv_pos.mpr hd
      rw [hs, hr, ← EReal.coe_sub, ← EReal.coe_mul]
      induction x with
      | bot =>
        rw [EReal.bot_mul_coe_of_pos hp, EReal.bot_add, EReal.bot_sub, EReal.bot_mul_coe_of_pos hi,
          EReal.bot_mul_coe_of_pos (by norm_num)]
      | top =>
        rw [EReal.top_mul_coe_of_pos hp, EReal.top_add_coe, EReal.top_sub_coe, EReal.top_mul_coe_of_pos hi,
          EReal.top_mul_coe_of_pos (by norm_num)]
      | coe c =>
        rw [← EReal.coe_sub, ← EReal.coe_mul, ← EReal.coe_mul, ← EReal.coe_mul, ← EReal.coe_add]
        congr 1
        field_simp
        ring

/-! ## The bin -/

/-- A word that stands for an integer of its range, clamped to run from 0 to 15, stands for the clamped integer. -/
theorem clamp_ofInt (z : ℤ) (h₁ : -2147483648 ≤ z) (h₂ : z ≤ 2147483647) :
    IntOp.minsi (IntOp.maxsi (BitVec.ofInt 32 z) 0#32) 15#32 = BitVec.ofInt 32 (max 0 (min 15 z)) := by
  have hz : (BitVec.ofInt 32 z).toInt = z := by
    rw [BitVec.toInt_ofInt]; exact Int.bmod_eq_of_le (by norm_num; omega) (by norm_num; omega)
  have h15 : (15#32 : BitVec 32).toInt = 15 := by decide
  have h0 : (0#32 : BitVec 32).toInt = 0 := by decide
  unfold IntOp.minsi IntOp.maxsi
  simp only [BitVec.slt_eq_decide, decide_eq_true_eq, hz, h0, h15]
  by_cases h : 0 < z
  · rw [if_pos h, hz]
    by_cases h' : z < 15
    · rw [if_pos h']; congr 1; omega
    · rw [if_neg h', show max 0 (min 15 z) = 15 by omega]; decide
  · rw [if_neg h, show max 0 (min 15 z) = 0 by omega]; decide

/-- Truncating and then clamping to 0 … 15 is rounding down, clamping and then converting. -/
theorem bin_eq (t : EReal) :
    IntOp.minsi (IntOp.maxsi (Ideal.fptosi 32 t) 0#32) 15#32
      = Ideal.fptosi 32 (min (((15 : ℤ) : ℝ) : EReal) (max (((0 : ℤ) : ℝ) : EReal) (Ideal.liftRound Int.floor t))) := by
  have e : ∀ n : ℤ, 0 ≤ n → n ≤ 15 → Ideal.fptosi 32 (((n : ℤ) : ℝ) : EReal) = BitVec.ofInt 32 n := fun n h₀ h₁ => by
    show BitVec.ofInt 32 (max _ (min _ (if (0 : ℝ) ≤ (n : ℝ) then ⌊(n : ℝ)⌋ else ⌈(n : ℝ)⌉))) = _
    rw [if_pos (by exact_mod_cast h₀), Int.floor_intCast]
    congr 1; norm_num; omega
  have k : ∀ z : ℤ, -2147483648 ≤ z → z ≤ 2147483647 → Ideal.toIntClamped (-(2 ^ (32 - 1) : ℕ)) ((2 ^ (32 - 1) : ℕ) - 1) t = z →
      IntOp.minsi (IntOp.maxsi (Ideal.fptosi 32 t) 0#32) 15#32 = BitVec.ofInt 32 (max 0 (min 15 z)) := fun z h₁ h₂ hz => by
    unfold Ideal.fptosi; rw [hz, clamp_ofInt z h₁ h₂]
  induction t with
  | bot =>
    rw [k (-2147483648) (by norm_num) (by norm_num) rfl]
    show _ = Ideal.fptosi 32 (min (((15 : ℤ) : ℝ) : EReal) (max (((0 : ℤ) : ℝ) : EReal) ⊥))
    rw [max_eq_left bot_le, min_eq_right (EReal.coe_le_coe_iff.mpr (Int.cast_le.mpr (by norm_num))), e 0 (by norm_num) (by norm_num)]
    rfl
  | top =>
    rw [k 2147483647 (by norm_num) (by norm_num) rfl]
    show _ = Ideal.fptosi 32 (min (((15 : ℤ) : ℝ) : EReal) (max (((0 : ℤ) : ℝ) : EReal) ⊤))
    rw [max_eq_right le_top, min_eq_left le_top, e 15 (by norm_num) (by norm_num)]
    rfl
  | coe r =>
    have hc : min (((15 : ℤ) : ℝ) : EReal) (max (((0 : ℤ) : ℝ) : EReal) (Ideal.liftRound Int.floor (r : EReal)))
        = (((max 0 (min 15 ⌊r⌋) : ℤ) : ℝ) : EReal) := by
      show min (((15 : ℤ) : ℝ) : EReal) (max (((0 : ℤ) : ℝ) : EReal) ((⌊r⌋ : ℝ) : EReal)) = _
      rw [← EReal.coe_strictMono.monotone.map_max, ← EReal.coe_strictMono.monotone.map_min, ← Int.cast_max, ← Int.cast_min]
      congr 2; omega
    rw [hc, e _ (by omega) (by omega)]
    by_cases hr : 0 ≤ r
    · have hf : 0 ≤ ⌊r⌋ := Int.floor_nonneg.mpr hr
      rw [k (max (-2147483648) (min 2147483647 ⌊r⌋)) (by omega) (by omega)
        (by show max _ (min _ (if 0 ≤ r then ⌊r⌋ else ⌈r⌉)) = _; rw [if_pos hr]; norm_num)]
      congr 1; omega
    · have hf : ⌊r⌋ < 0 := Int.floor_lt.mpr (by exact_mod_cast not_le.mp hr)
      have hg : ⌈r⌉ ≤ 0 := Int.ceil_le.mpr (by exact_mod_cast (not_le.mp hr).le)
      rw [k (max (-2147483648) (min 2147483647 ⌈r⌉)) (by omega) (by omega)
        (by show max _ (min _ (if 0 ≤ r then ⌊r⌋ else ⌈r⌉)) = _; rw [if_neg hr]; norm_num)]
      congr 1; omega

/-! ## The interpolation -/

/-- The bin of a position: the position truncated and clamped to run from 0 to 15. -/
abbrev binOf (t : EReal) : BitVec 32 := IntOp.minsi (IntOp.maxsi (Ideal.fptosi 32 t) 0#32) 15#32

/-- A bin is at most 15. -/
theorem binOf_le (t : EReal) : (binOf t).toNat ≤ 15 := KernelIdeal.clamp_le _

/-- Feature `f`'s transform at position `t`: the table's value at the bin's lower edge, plus the position's distance past that
    edge times the rise to the upper edge. -/
def interp (c : FVec Ideal (⟨2, ![8, 17]⟩ : Shape) .f32) (f : Fin 8) (t : EReal) : EReal :=
  c (ValueIdx.ix2 f ⟨(binOf t).toNat, by have := binOf_le t; omega⟩)
    + (t - (((binOf t).toInt : ℝ) : EReal))
      * (c (ValueIdx.ix2 f ⟨(binOf t).toNat + 1, by have := binOf_le t; omega⟩)
        - c (ValueIdx.ix2 f ⟨(binOf t).toNat, by have := binOf_le t; omega⟩))

end Cert.Proof.Math

end
-- ==== Proof.RValue.lean ====
/-
  The reference's result read at one element, over the extended reals.
-/
module

public import proofs.«01_k».proof.Defs
public import proofs.«01_k».proof.Proof.Math
public import proofs.«01_k».proof.Proof.Gen.ReferenceIdeal
public import proofs.«01_k».proof.Proof.Gen.ReferenceIdeal.Read
public import Idealize.ShloMosaic.Lib.Pipeline.Value
public import Idealize.ShloMosaic.Lib.ValueIdxCore

@[expose] public section

noncomputable section

namespace Cert.Proof.ReferenceIdeal

open Cert.ReferenceIdeal Cert.ReferenceIdeal.Gen Cert.ReferenceIdeal.Read
open Idealize.ShloMosaic Idealize.ShloMosaic.ValueIdx

variable (x0 : FVec Ideal S64x2048x8 .f32) (x1 : FVec Ideal S2x8 .f32) (x2 : FVec Ideal S8x17 .f32)

/-! ## The extremes of a feature's two training rows -/

/-- The two training rows reduce to one value per feature. -/
theorem red : S2x8.Reduces [0] S8 := by decide

/-- The training value of row `k` under feature `f` is where the reduction over rows reads. -/
theorem lift_eq (f : Fin 8) (k : Fin 2) : red.lift (ix1 f) k = ix2 k f := by
  funext a
  match a with
  | ⟨0, _⟩ => rfl
  | ⟨1, _⟩ => rfl

/-- A fold over two rows is the two values combined, when the starting value is neutral. -/
theorem fold_two (op : EReal → EReal → EReal) [Std.Commutative op] [Std.Associative op] (b : EReal) (hb : ∀ x, op x b = x) (g : Fin 2 → EReal) :
    (Finset.univ : Finset (Fin 2)).fold op b g = op (g 0) (g 1) := by
  rw [show (Finset.univ : Finset (Fin 2)) = insert 0 {1} from rfl, Finset.fold_insert (by decide), Finset.fold_singleton, hb]

/-- A feature's minimum is the smaller of its two training values. -/
theorem v0_apply (f : Fin 8) : val_main_v0 (F := Ideal) x1 (ix1 f) = min (x1 (ix2 0 f)) (x1 (ix2 1 f)) := by
  unfold val_main_v0
  rw [Host.reduce_eq_fold_single FloatOps.minimumf x1 _ reducesTo_S2x8_S8_d0 red h_S_ (ix1 f)]
  refine (fold_two (FloatOps.minimumf (F := Ideal) (φ := .f32)) _ (fun x => ?_) _).trans ?_
  · show min x (Ideal.ofBits .f32 0x7F800000#32) = x
    rw [Math.lit_top]; exact min_eq_left le_top
  · exact congrArg₂ min (congrArg x1 (lift_eq f 0)) (congrArg x1 (lift_eq f 1))

/-- A feature's maximum is the larger of its two training values. -/
theorem v1_apply (f : Fin 8) : val_main_v1 (F := Ideal) x1 (ix1 f) = max (x1 (ix2 0 f)) (x1 (ix2 1 f)) := by
  unfold val_main_v1
  rw [Host.reduce_eq_fold_single FloatOps.maximumf x1 _ reducesTo_S2x8_S8_d0 red h_S_ (ix1 f)]
  refine (fold_two (FloatOps.maximumf (F := Ideal) (φ := .f32)) _ (fun x => ?_) _).trans ?_
  · show max x (Ideal.ofBits .f32 0xFF800000#32) = x
    rw [Math.lit_bot]; exact max_eq_left bot_le
  · exact congrArg₂ max (congrArg x1 (lift_eq f 0)) (congrArg x1 (lift_eq f 1))

/-! ## The position and the bin -/

/-- The position of an input among the bins. -/
def pos (i : S64x2048x8.Idx) : EReal :=
  Ideal.div (x0 i - min (x1 (ix2 0 (i 2))) (x1 (ix2 1 (i 2))))
    (max (x1 (ix2 0 (i 2))) (x1 (ix2 1 (i 2))) - min (x1 (ix2 0 (i 2))) (x1 (ix2 1 (i 2)))) * ((16 : ℝ) : EReal)

/-- The reference's scaled input is the position. -/
theorem v10_apply (i : S64x2048x8.Idx) : val_main_v10 (F := Ideal) x0 x1 i = pos x0 x1 i := by
  have e3 : val_main_v3 (F := Ideal) x1 i = min (x1 (ix2 0 (i 2))) (x1 (ix2 1 (i 2))) := by
    rw [val_main_v3_apply, val_main_v2_apply]
    exact (congrArg _ (eq_ix1 _)).trans (v0_apply x1 (i 2))
  have e7 : val_main_v7 (F := Ideal) x1 i
      = max (x1 (ix2 0 (i 2))) (x1 (ix2 1 (i 2))) - min (x1 (ix2 0 (i 2))) (x1 (ix2 1 (i 2))) := by
    rw [val_main_v7_apply, val_main_v6_apply, val_main_v5_apply]
    have h0 := (congrArg (val_main_v0 (F := Ideal) x1) (eq_ix1 (idx_main_v6 (idx_main_v7 i)))).trans (v0_apply x1 (i 2))
    have h1 := (congrArg (val_main_v1 (F := Ideal) x1) (eq_ix1 (idx_main_v6 (idx_main_v7 i)))).trans (v1_apply x1 (i 2))
    rw [h0, h1]; rfl
  rw [val_main_v10_apply, val_main_v8_apply, val_main_v4_apply, e3, e7, val_main_v9_apply, val_main_cst_1_apply]
  show Ideal.div _ _ * Ideal.ofBits .f32 0x41800000#32 = _
  rw [Math.lit_16]; rfl

/-- The bin of an input: its position truncated and clamped to run from 0 to 15. -/
def bin (i : S64x2048x8.Idx) : BitVec 32 := IntOp.minsi (IntOp.maxsi (Ideal.fptosi 32 (pos x0 x1 i)) 0#32) 15#32

/-- The bin is at most 15. -/
theorem bin_le (i : S64x2048x8.Idx) : (bin x0 x1 i).toNat ≤ 15 := KernelIdeal.clamp_le _

/-- The reference's clipped and converted index is the bin. -/
theorem v13_apply (i : S64x2048x8.Idx) : val_main_v13 (F := Ideal) x0 x1 i = bin x0 x1 i := by
  rw [val_main_v13_apply, val_main_v12_apply, val_main_call0_v4_apply, val_main_call0_v3_apply, val_main_c_2_apply,
    val_main_call0_v2_apply, val_main_call0_v1_apply, val_main_call0_v0_apply, val_main_c_apply, val_main_v11_apply, v10_apply]
  exact (Math.bin_eq _).symm

/-! ## The index words -/

/-- A word below 2^31 is not negative, so wrapping a negative index leaves it alone. -/
theorem wrap_eq (w n : BitVec 32) (h : w.toNat < 2147483648) :
    Scalar.select (IntOp.cmpi .slt w 0#32) (IntOp.addi w n) w = w := by
  unfold Scalar.select IntOp.cmpi
  refine if_neg ?_
  have : w.slt 0#32 = false := by
    simp only [BitVec.slt_eq_decide, BitVec.toInt_eq_toNat_cond, BitVec.toNat_ofNat, decide_eq_false_iff_not]
    omega
  simp only [this]; decide

/-- The feature index of the lower read is the feature. -/
theorem v20_apply (i : S1x1x8.Idx) : val_main_v20 (F := Ideal) i = BitVec.ofNat 32 (i 2).val := by
  have h : (i 2).val < 8 := (i 2).isLt
  rw [val_main_v20_apply, val_main_v17_apply, val_main_v19_apply, val_main_v16_apply, val_main_c_3_apply, val_main_v15_apply,
    val_main_v14_apply]
  exact wrap_eq _ _ (by rw [BitVec.toNat_ofNat]; show (i 2).val % _ < _; omega)

/-- The feature index of the upper read is the feature. -/
theorem v38_apply (i : S1x1x8.Idx) : val_main_v38 (F := Ideal) i = BitVec.ofNat 32 (i 2).val := by
  have h : (i 2).val < 8 := (i 2).isLt
  rw [val_main_v38_apply, val_main_v35_apply, val_main_v37_apply, val_main_v34_apply, val_main_c_8_apply, val_main_v31_apply,
    val_main_v14_apply]
  exact wrap_eq _ _ (by rw [BitVec.toNat_ofNat]; show (i 2).val % _ < _; omega)

/-- The bin index of the lower read is the bin. -/
theorem v25_apply (i : S64x2048x8.Idx) : val_main_v25 (F := Ideal) x0 x1 i = bin x0 x1 i := by
  rw [val_main_v25_apply, val_main_v22_apply, val_main_v24_apply, val_main_v21_apply, val_main_c_5_apply, v13_apply]
  exact wrap_eq _ _ (by have := bin_le x0 x1 i; omega)

/-- The bin plus one does not wrap. -/
theorem succ_toNat (i : S64x2048x8.Idx) : (IntOp.addi (bin x0 x1 i) 1#32).toNat = (bin x0 x1 i).toNat + 1 := by
  have := bin_le x0 x1 i
  simp only [IntOp.addi, BitVec.toNat_add, BitVec.toNat_ofNat]
  omega

/-- The bin index of the upper read is the bin plus one. -/
theorem v43_apply (i : S64x2048x8.Idx) : val_main_v43 (F := Ideal) x0 x1 i = IntOp.addi (bin x0 x1 i) 1#32 := by
  rw [val_main_v43_apply, val_main_v40_apply, val_main_v42_apply, val_main_v39_apply, val_main_c_10_apply, val_main_v33_apply,
    val_main_v32_apply, val_main_c_7_apply, v13_apply]
  exact wrap_eq _ _ (by have := bin_le x0 x1 i; rw [succ_toNat]; omega)

/-! ## The table reads -/

/-- The place of component `k` of an element's start indices. -/
abbrev a4 (i : S64x2048x8.Idx) (k : Fin 2) : S64x2048x8x2.Idx := fun b => match b with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => k

/-- An element's place in an array with a unit axis appended. -/
abbrev a1 (i : S64x2048x8.Idx) : S64x2048x8x1.Idx := fun b => match b with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩

/-- The table reads' dimension numbers. -/
abbrev gd : GatherDims S8x17 S64x2048x8x2 S64x2048x8 := gather_S8x17_S64x2048x8x2_S64x2048x8_n_01_n_n_01_3_11

/-- Both of the table's axes are named. -/
theorem mem_both : ∀ a : Fin 2, a ∈ ([0, 1] : List (Fin 2)) := by decide

/-- Two arrays joined along a new last axis, read at its first place, is the first array. -/
theorem pair_zero (p q : IVec S64x2048x8x1 32) (h) (i : S64x2048x8.Idx) :
    concatenate S64x2048x8x2 3 [⟨S64x2048x8x1, p⟩, ⟨S64x2048x8x1, q⟩] h (a4 i 0) = p (a1 i) :=
  concatenate_pair_apply_left (3 : Fin S64x2048x8x2.rank) p q h (a4 i 0) rfl (a1 i)
    (fun b => by match b with | ⟨0, _⟩ => rfl | ⟨1, _⟩ => rfl | ⟨2, _⟩ => rfl | ⟨3, _⟩ => rfl)

/-- Read at its second place, the second array. -/
theorem pair_one (p q : IVec S64x2048x8x1 32) (h) (i : S64x2048x8.Idx) :
    concatenate S64x2048x8x2 3 [⟨S64x2048x8x1, p⟩, ⟨S64x2048x8x1, q⟩] h (a4 i 1) = q (a1 i) :=
  concatenate_pair_apply_right (3 : Fin S64x2048x8x2.rank) p q h (a4 i 1) rfl rfl (a1 i)
    (fun b hb => by
      match b, hb with
      | ⟨0, _⟩, _ => rfl
      | ⟨1, _⟩, _ => rfl
      | ⟨2, _⟩, _ => rfl
      | ⟨3, _⟩, hb => exact absurd rfl hb) rfl

/-- The table read at a pair of start indices, one for the feature and one for the bin, each read as a signed integer and
    clamped to its axis. -/
theorem gather_apply (y : S8x17.Idx → Ideal .f32) (idx : IVec S64x2048x8x2 32) (i : S64x2048x8.Idx) (f : Fin 8) (k : Fin 17)
    (hf : (idx (a4 i 0)).toInt = f.val) (hk : (idx (a4 i 1)).toInt = k.val) :
    Host.gather gd y idx i = y (ix2 f k) := by
  unfold Host.gather
  congr 1
  funext a
  refine Fin.ext ?_
  show gd.start i idx a + gd.batchCoord i a + gd.offCoord i a = _
  have hm : a ∈ gd.startIndexMap := mem_both a
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos hm]
  match a with
  | ⟨0, _⟩ =>
    have hs : gd.siIdx i ⟨List.idxOf (0 : Fin 2) gd.startIndexMap, List.idxOf_lt_length_iff.2 hm⟩ = a4 i 0 := by
      funext b; refine Fin.ext ?_
      match b with
      | ⟨0, _⟩ => rfl
      | ⟨1, _⟩ => rfl
      | ⟨2, _⟩ => rfl
      | ⟨3, _⟩ => rfl
    show min (idx (gd.siIdx i ⟨List.idxOf (0 : Fin 2) gd.startIndexMap, _⟩)).toInt.toNat (8 - 1) = f.val
    refine (congrArg (fun z => min (idx z).toInt.toNat (8 - 1)) hs).trans ?_
    show min (idx (a4 i 0)).toInt.toNat (8 - 1) = f.val
    rw [hf]; omega
  | ⟨1, _⟩ =>
    have hs : gd.siIdx i ⟨List.idxOf (1 : Fin 2) gd.startIndexMap, List.idxOf_lt_length_iff.2 hm⟩ = a4 i 1 := by
      funext b; refine Fin.ext ?_
      match b with
      | ⟨0, _⟩ => rfl
      | ⟨1, _⟩ => rfl
      | ⟨2, _⟩ => rfl
      | ⟨3, _⟩ => rfl
    show min (idx (gd.siIdx i ⟨List.idxOf (1 : Fin 2) gd.startIndexMap, _⟩)).toInt.toNat (17 - 1) = k.val
    refine (congrArg (fun z => min (idx z).toInt.toNat (17 - 1)) hs).trans ?_
    show min (idx (a4 i 1)).toInt.toNat (17 - 1) = k.val
    rw [hk]; omega

/-- The start indices' first component is the feature. -/
theorem v29_zero (i : S64x2048x8.Idx) :
    val_main_v29 (F := Ideal) x0 x1 (a4 i 0) = BitVec.ofNat 32 (i 2).val := by
  unfold val_main_v29
  rw [pair_zero]
  rw [val_main_v27_apply, val_main_v26_apply, v20_apply]

/-- The start indices' second component is the bin. -/
theorem v29_one (i : S64x2048x8.Idx) :
    val_main_v29 (F := Ideal) x0 x1 (a4 i 1) = bin x0 x1 i := by
  unfold val_main_v29
  rw [pair_one]
  rw [val_main_v28_apply, v25_apply]
  exact congrArg (bin x0 x1) (show idx_main_v28 (a1 i) = i by funext a; match a with | ⟨0, _⟩ => rfl | ⟨1, _⟩ => rfl | ⟨2, _⟩ => rfl)

/-- The upper read's first start index is the feature. -/
theorem v47_zero (i : S64x2048x8.Idx) :
    val_main_v47 (F := Ideal) x0 x1 (a4 i 0) = BitVec.ofNat 32 (i 2).val := by
  unfold val_main_v47
  rw [pair_zero]
  rw [val_main_v45_apply, val_main_v44_apply, v38_apply]

/-- The upper read's second start index is the bin plus one. -/
theorem v47_one (i : S64x2048x8.Idx) :
    val_main_v47 (F := Ideal) x0 x1 (a4 i 1) = IntOp.addi (bin x0 x1 i) 1#32 := by
  unfold val_main_v47
  rw [pair_one]
  rw [val_main_v46_apply, v43_apply]
  exact congrArg (fun j => IntOp.addi (bin x0 x1 j) 1#32) (show idx_main_v46 (a1 i) = i by funext a; match a with | ⟨0, _⟩ => rfl | ⟨1, _⟩ => rfl | ⟨2, _⟩ => rfl)

/-- A word below 2^31 reads as itself when read signed. -/
theorem toInt_small (w : BitVec 32) (n : ℕ) (h : w.toNat = n) (hn : n < 2147483648) : w.toInt = n := by
  rw [BitVec.toInt_eq_toNat_cond]; omega

/-- A feature number reads as itself when read signed. -/
theorem feature_toInt (i : S64x2048x8.Idx) : (BitVec.ofNat 32 (i 2).val).toInt = (i 2).val := by
  have h : (i 2).val < 8 := (i 2).isLt
  exact toInt_small _ _ (by rw [BitVec.toNat_ofNat]; omega) (by omega)

/-- The table's value at the bin's lower edge. -/
theorem v30_apply (i : S64x2048x8.Idx) :
    val_main_v30 (F := Ideal) x0 x1 x2 i
      = x2 (ix2 (i 2) ⟨(bin x0 x1 i).toNat, by have := bin_le x0 x1 i; omega⟩) := by
  have h := bin_le x0 x1 i
  unfold val_main_v30
  exact gather_apply x2 _ i (i 2) ⟨(bin x0 x1 i).toNat, by omega⟩ (by rw [v29_zero]; exact feature_toInt i)
    (by rw [v29_one]; exact toInt_small _ _ rfl (by omega))

/-- The table's value at the bin's upper edge. -/
theorem v48_apply (i : S64x2048x8.Idx) :
    val_main_v48 (F := Ideal) x0 x1 x2 i
      = x2 (ix2 (i 2) ⟨(bin x0 x1 i).toNat + 1, by have := bin_le x0 x1 i; omega⟩) := by
  have h := bin_le x0 x1 i
  unfold val_main_v48
  exact gather_apply x2 _ i (i 2) ⟨(bin x0 x1 i).toNat + 1, by omega⟩ (by rw [v47_zero]; exact feature_toInt i)
    (by rw [v47_one]; exact toInt_small _ _ (succ_toNat x0 x1 i) (by omega))

/-- The reference's element: its feature's transform at its position. -/
theorem v53_apply (i : S64x2048x8.Idx) :
    val_main_v53 (F := Ideal) x0 x1 x2 i
      = Math.interp x2 (i 2) (pos x0 x1 i) := by
  rw [val_main_v53_apply, val_main_v52_apply, val_main_v51_apply, val_main_v50_apply, val_main_v49_apply, v10_apply, v13_apply,
    v30_apply, v48_apply]
  rfl

end Cert.Proof.ReferenceIdeal

end
-- ==== Proof.KValue.lean ====
/-
  The kernel's result read at one element, over the extended reals.
-/
module

public import proofs.«01_k».proof.Proof.Run
public import proofs.«01_k».proof.Proof.RValue
public import Idealize.ShloMosaic.Lib.Pipeline.Value
public import Idealize.ShloMosaic.Lib.KernelVsHost
public import Idealize.ShloMosaic.Lib.ValueIdxCore

@[expose] public section

noncomputable section

namespace Cert.Proof.KernelIdeal

open Cert.KernelIdeal Cert.KernelIdeal.Gen
open Idealize.ShloMosaic Idealize.ShloMosaic.ValueIdx

/-- A gather from a flat array is the array at the lane's word. -/
theorem load_at {F : FTy → Type} [FloatOps F] {n : ℕ} (t : Vec F (⟨1, ![n]⟩ : Shape) .f32) (v : IVec S16 32)
    (h : ∀ a x, ((![v] : Fin 1 → IVec S16 32) a x).toNat < (⟨1, ![n]⟩ : Shape).size a) (l : S16.Idx) (k : ℕ) (hk : (v l).toNat = k)
    (hn : k < n) : loadIdx t ![v] h l = t (ix1 ⟨k, hn⟩) := by
  subst hk
  refine congrArg t (funext fun a => ?_)
  match a with
  | ⟨0, _⟩ => rfl

variable (a : FVec Ideal S64x2048x8 .f32) (b : FVec Ideal S2x8 .f32) (c : FVec Ideal S8x17 .f32)

/-! ## The three flat arrays -/

/-- The flat input at an element's flat place. -/
theorem Xof_at (i : S64x2048x8.Idx) (n : ℕ) (h : n < 1048576) (hn : n = ((i 0).val * 2048 + (i 1).val) * 8 + (i 2).val) :
    Xof (F := Ideal) a (ix1 ⟨n, h⟩) = a i := by
  subst hn
  unfold Xof
  refine shapeCast_apply _ _ _ _ ?_
  rw [Shape.rowMajor_val_three, Shape.rowMajor_val_one]
  rfl

/-- The flat training rows: row `k`'s value under feature `f` is element `8 k + f`. -/
theorem Sof_at (k : Fin 2) (f : Fin 8) (n : ℕ) (h : n < 16) (hn : n = k.val * 8 + f.val) : Sof (F := Ideal) b (ix1 ⟨n, h⟩) = b (ix2 k f) := by
  subst hn
  unfold Sof
  refine shapeCast_apply _ _ _ _ ?_
  rw [Shape.rowMajor_val_two, Shape.rowMajor_val_one]
  rfl

/-- The flat table: feature `f`'s value at edge `k` is element `17 f + k`; the padding lies past them all. -/
theorem Tof_at (f : Fin 8) (k : Fin 17) (n : ℕ) (h : n < 144) (hn : n = f.val * 17 + k.val) : Tof (F := Ideal) c (ix1 ⟨n, h⟩) = c (ix2 f k) := by
  subst hn
  have hlt : f.val * 17 + k.val < 136 := by omega
  unfold Tof
  rw [pad_apply_of_inside _ _ _ _ _ _ _ _ (ix1 ⟨f.val * 17 + k.val, hlt⟩ : S136.Idx) (fun x => by
    match x with
    | ⟨0, _⟩ => show f.val * 17 + k.val = 0 + (f.val * 17 + k.val) * (0 + 1); omega)]
  refine shapeCast_apply _ _ _ _ ?_
  rw [Shape.rowMajor_val_two, Shape.rowMajor_val_one]
  rfl

/-! ## One lane -/

/-- The smaller of feature `f`'s two training values. -/
abbrev mn (f : Fin 8) : EReal := min (b (ix2 0 f)) (b (ix2 1 f))
/-- The larger. -/
abbrev mx (f : Fin 8) : EReal := max (b (ix2 0 f)) (b (ix2 1 f))
/-- The feature's scale. -/
abbrev sc (f : Fin 8) : EReal := Ideal.div ((16 : ℝ) : EReal) (mx b f - mn b f)

/-- A lane's first training value. -/
theorem row0_at (l : S16.Idx) (f : Fin 8) (hf : (l 0).val % 8 = f.val) :
    loadIdx (Sof (F := Ideal) b) ![k0_pay5] (k0_idx1_inb _ chk1) l = b (ix2 0 f) := by
  have h8 : f.val < 8 := f.isLt
  rw [load_at _ _ _ l f.val (by rw [pay5_lane, BitVec.toNat_ofNat, hf]; omega) (by omega)]
  exact Sof_at b 0 f _ _ (by simp)

/-- A lane's second training value. -/
theorem row1_at (l : S16.Idx) (f : Fin 8) (hf : (l 0).val % 8 = f.val) :
    loadIdx (Sof (F := Ideal) b) ![k0_pay6 k0_pay5] (k0_idx2_inb _ chk2) l = b (ix2 1 f) := by
  have h8 : f.val < 8 := f.isLt
  rw [load_at _ _ _ l (8 + f.val) (by rw [pay6_lane, BitVec.toNat_ofNat, hf]; omega) (by omega)]
  exact Sof_at b 1 f _ _ (by simp)

/-- A lane's scale is its feature's. -/
theorem scale_at (l : S16.Idx) (f : Fin 8) (hf : (l 0).val % 8 = f.val) : scaleV (Sof (F := Ideal) b) l = sc b f := by
  show Ideal.div (Ideal.ofBits .f32 0x41800000#32)
    (max (loadIdx (Sof (F := Ideal) b) ![k0_pay5] (k0_idx1_inb _ chk1) l) (loadIdx (Sof (F := Ideal) b) ![k0_pay6 k0_pay5] (k0_idx2_inb _ chk2) l)
      - min (loadIdx (Sof (F := Ideal) b) ![k0_pay5] (k0_idx1_inb _ chk1) l) (loadIdx (Sof (F := Ideal) b) ![k0_pay6 k0_pay5] (k0_idx2_inb _ chk2) l)) = _
  rw [row0_at b l f hf, row1_at b l f hf, Math.lit_16]

/-- A lane's shift is its feature's. -/
theorem shift_at (l : S16.Idx) (f : Fin 8) (hf : (l 0).val % 8 = f.val) :
    shiftV (Sof (F := Ideal) b) l = (((0 : ℝ) : EReal) - mn b f) * sc b f := by
  rw [← scale_at b l f hf]
  show (Ideal.ofBits .f32 0x00000000#32
      - min (loadIdx (Sof (F := Ideal) b) ![k0_pay5] (k0_idx1_inb _ chk1) l) (loadIdx (Sof (F := Ideal) b) ![k0_pay6 k0_pay5] (k0_idx2_inb _ chk2) l))
    * scaleV (Sof (F := Ideal) b) l = _
  rw [row0_at b l f hf, row1_at b l f hf, Math.lit_0]

/-- The kernel's position of an input `x` of feature `f` among the bins. -/
abbrev kpos (f : Fin 8) (x : EReal) : EReal := x * sc b f + (((0 : ℝ) : EReal) - mn b f) * sc b f

/-- The kernel's bin of that input. -/
abbrev kbin (f : Fin 8) (x : EReal) : BitVec 32 := IntOp.minsi (IntOp.maxsi (Ideal.fptosi 32 (kpos b f x)) 0#32) 15#32

/-- The kernel's bin is at most 15. -/
theorem kbin_le (f : Fin 8) (x : EReal) : (kbin b f x).toNat ≤ 15 := clamp_le _

/-- A lane's position is the position of its input. -/
theorem pos_at (x : FVec Ideal S16 .f32) (l : S16.Idx) (f : Fin 8) (hf : (l 0).val % 8 = f.val) :
    k0_pay1 (scaleV (Sof (F := Ideal) b)) (shiftV (Sof (F := Ideal) b)) x l = kpos b f (x l) := by
  show x l * scaleV (Sof (F := Ideal) b) l + shiftV (Sof (F := Ideal) b) l = _
  rw [scale_at b l f hf, shift_at b l f hf]

/-- A lane's bin is the bin of its input. -/
theorem bin_at (x : FVec Ideal S16 .f32) (l : S16.Idx) (f : Fin 8) (hf : (l 0).val % 8 = f.val) :
    k0_pay2 (scaleV (Sof (F := Ideal) b)) (shiftV (Sof (F := Ideal) b)) x l = kbin b f (x l) := by
  show IntOp.minsi (IntOp.maxsi (Ideal.fptosi 32 (k0_pay1 (scaleV (Sof (F := Ideal) b)) (shiftV (Sof (F := Ideal) b)) x l)) 0#32) 15#32 = _
  rw [pos_at b x l f hf]

/-- One lane of one step: its feature's transform at its position. -/
theorem step_at (x : FVec Ideal S16 .f32) (l : S16.Idx) (f : Fin 8) (hf : (l 0).val % 8 = f.val) :
    stepV (scaleV (Sof (F := Ideal) b)) (shiftV (Sof (F := Ideal) b)) (Tof (F := Ideal) c) x l
      = Math.interp c f (kpos b f (x l)) := by
  have hk := kbin_le b f (x l)
  have h8 : f.val < 8 := f.isLt
  have hlo : loadIdx (Tof (F := Ideal) c) ![posV (scaleV (Sof (F := Ideal) b)) (shiftV (Sof (F := Ideal) b)) x] (k0_idx3_inb _ (chk3 _ _ _)) l
      = c (ix2 f ⟨(kbin b f (x l)).toNat, by omega⟩) := by
    rw [load_at _ _ _ l ((kbin b f (x l)).toNat + f.val * 17) (by rw [posV_toNat, bin_at b x l f hf, hf]) (by omega)]
    exact Tof_at c f ⟨(kbin b f (x l)).toNat, by omega⟩ _ _ (Nat.add_comm _ _)
  have hhi : loadIdx (Tof (F := Ideal) c) ![k0_pay3 (posV (scaleV (Sof (F := Ideal) b)) (shiftV (Sof (F := Ideal) b)) x)] (k0_idx4_inb _ (chk4 _ _ _)) l
      = c (ix2 f ⟨(kbin b f (x l)).toNat + 1, by omega⟩) := by
    rw [load_at _ _ _ l ((kbin b f (x l)).toNat + f.val * 17 + 1) (by rw [posV_succ, bin_at b x l f hf, hf]) (by omega)]
    exact Tof_at c f ⟨(kbin b f (x l)).toNat + 1, by omega⟩ _ _ (by show _ = f.val * 17 + (_ + 1); omega)
  show loadIdx (Tof (F := Ideal) c) ![posV (scaleV (Sof (F := Ideal) b)) (shiftV (Sof (F := Ideal) b)) x] (k0_idx3_inb _ (chk3 _ _ _)) l
    + (k0_pay1 (scaleV (Sof (F := Ideal) b)) (shiftV (Sof (F := Ideal) b)) x l - (((k0_pay2 (scaleV (Sof (F := Ideal) b)) (shiftV (Sof (F := Ideal) b)) x l).toInt : ℝ) : EReal))
      * (loadIdx (Tof (F := Ideal) c) ![k0_pay3 (posV (scaleV (Sof (F := Ideal) b)) (shiftV (Sof (F := Ideal) b)) x)] (k0_idx4_inb _ (chk4 _ _ _)) l
        - loadIdx (Tof (F := Ideal) c) ![posV (scaleV (Sof (F := Ideal) b)) (shiftV (Sof (F := Ideal) b)) x] (k0_idx3_inb _ (chk3 _ _ _)) l) = _
  rw [hlo, hhi, pos_at b x l f hf, bin_at b x l f hf]
  rfl

/-! ## The result -/

/-- The kernel's element: its feature's transform at its position. -/
theorem Rof_at (i : S64x2048x8.Idx) :
    Rof (F := Ideal) a b c i
      = Math.interp c (i 2) (kpos b (i 2) (a i)) := by
  have h0 : (i 0).val < 64 := (i 0).isLt
  have h1 : (i 1).val < 2048 := (i 1).isLt
  have h2 : (i 2).val < 8 := (i 2).isLt
  have hn : ((i 0).val * 2048 + (i 1).val) * 8 + (i 2).val < 1048576 := by omega
  unfold Rof
  rw [shapeCast_apply _ _ i (ix1 ⟨((i 0).val * 2048 + (i 1).val) * 8 + (i 2).val, hn⟩ : S1048576.Idx)
    (by rw [Shape.rowMajor_val_three, Shape.rowMajor_val_one]; rfl)]
  have hq : 16 * ((((i 0).val * 2048 + (i 1).val) * 8 + (i 2).val) / 16) + 16 ≤ 1048576 := by omega
  have hl : (((i 0).val * 2048 + (i 1).val) * 8 + (i 2).val) % 16 < 16 := Nat.mod_lt _ (by decide)
  rw [outV_at _ _ _ _ _ hq (ix1 ⟨_, hl⟩ : S16.Idx) (by show _ = 16 * _ + _ % 16; exact (Nat.div_add_mod _ _).symm)]
  have hx : stepIn (Xof (F := Ideal) a) _ hq (ix1 ⟨_, hl⟩ : S16.Idx) = a i := by
    refine Eq.trans ?_ (Xof_at a i _ hn rfl)
    refine congrArg (Xof (F := Ideal) a) ((eq_ix1 _).trans (congrArg ix1 (Fin.ext ?_)))
    exact Nat.div_add_mod _ _
  rw [step_at b c _ _ (i 2) (by show (_ % 16) % 8 = (i 2).val; omega), hx]

end Cert.Proof.KernelIdeal

end
-- ==== Proof.Equation.lean ====
/-
  The two results are one array, when no feature's two training values are equal.
-/
module

public import proofs.«01_k».proof.Proof.KValue
public import proofs.«01_k».proof.Proof.RValue
public import proofs.«01_k».proof.Proof.Gen.Pre_distinct_rows

@[expose] public section

noncomputable section

namespace Cert.Proof.Equation

open Cert.KernelIdeal Cert.KernelIdeal.Gen
open Idealize.ShloMosaic Idealize.ShloMosaic.ValueIdx

variable (a : FVec Ideal S64x2048x8 .f32) (b : FVec Ideal S2x8 .f32) (c : FVec Ideal S8x17 .f32)

/-- The precondition, feature by feature: the two training values differ. -/
theorem rows_ne (h : Cert.Pre_distinct_rows.fn (F := Ideal) a b c = fun _ => 1#1) (f : Fin 8) : b (ix2 0 f) ≠ b (ix2 1 f) := by
  have e := congrFun h (ix1 f)
  have h0 : shapeCast Cert.Pre_distinct_rows.S8 (extractStridedSlice Cert.Pre_distinct_rows.S1x8 ![0, 0] b Cert.Pre_distinct_rows.Facts.slices_S2x8_S1x8_0_0)
      Cert.Pre_distinct_rows.Facts.shapeCasts_S1x8_S8 (ix1 f) = b (ix2 0 f) := by
    rw [shapeCast_apply _ _ _ (ix2 0 f : Cert.Pre_distinct_rows.S1x8.Idx)
      (by rw [Shape.rowMajor_val_two, Shape.rowMajor_val_one]; show 0 * 8 + f.val = f.val; omega)]
    exact extractStridedSlice_apply _ _ _ _ _ (fun x => by
      match x with
      | ⟨0, _⟩ => rfl
      | ⟨1, _⟩ => show f.val = 0 + f.val; omega)
  have h1 : shapeCast Cert.Pre_distinct_rows.S8 (extractStridedSlice Cert.Pre_distinct_rows.S1x8 ![1, 0] b Cert.Pre_distinct_rows.Facts.slices_S2x8_S1x8_1_0)
      Cert.Pre_distinct_rows.Facts.shapeCasts_S1x8_S8 (ix1 f) = b (ix2 1 f) := by
    rw [shapeCast_apply _ _ _ (ix2 0 f : Cert.Pre_distinct_rows.S1x8.Idx)
      (by rw [Shape.rowMajor_val_two, Shape.rowMajor_val_one]; show 0 * 8 + f.val = f.val; omega)]
    exact extractStridedSlice_apply _ _ _ _ _ (fun x => by
      match x with
      | ⟨0, _⟩ => rfl
      | ⟨1, _⟩ => show f.val = 0 + f.val; omega)
  intro hb
  have e' : Ideal.cmp .une (b (ix2 0 f)) (b (ix2 1 f)) = 1#1 := by
    rw [← h0, ← h1]; exact e
  rw [hb] at e'
  revert e'
  simp [Ideal.cmp]

/-- The kernel's array is the reference's. -/
theorem result_eq (h : Cert.Pre_distinct_rows.fn (F := Ideal) a b c = fun _ => 1#1) :
    KernelIdeal.Rof (F := Ideal) a b c = Cert.ReferenceIdeal.Read.val_main_v53 (F := Ideal) a b c := by
  funext i
  rw [KernelIdeal.Rof_at]
  refine Eq.trans ?_ (ReferenceIdeal.v53_apply a b c i).symm
  refine congrArg (Math.interp c (i 2)) ?_
  exact Math.pos_eq (a i) _ _ (min_lt_max.mpr (rows_ne a b c h (i 2)))

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_distinct_rows
public import proofs.«01_k».proof.Proof.Run
public import proofs.«01_k».proof.Proof.BitsRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel at machine floats runs, keeps its arguments and ends with every semaphore at zero. -/
theorem frame_bits : quiescent_Kernel := fun m g _ =>
  (θ_run Cert.Kernel.defs _ _).mono (fun _ h => ⟨fun c => (h.1 c).2, h.2⟩) (Cert.Proof.Kernel.run_main (F := Bits) m g)

/-- The kernel at extended reals runs, keeps its arguments and ends with every semaphore at zero. -/
theorem frame_ideal : quiescent_KernelIdeal := fun m g _ =>
  (θ_run Cert.KernelIdeal.defs _ _).mono (fun _ h => ⟨fun c => (h.1 c).2, h.2⟩) (Cert.Proof.KernelIdeal.run_main (F := Ideal) m g)

/-- The reference runs, keeps its arguments and ends with every semaphore at zero. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From equal arguments, no feature's two training values equal, the kernel and the reference end with the same array. -/
theorem equal_results : algebraic_KernelIdeal_ReferenceIdeal_pre_distinct_rows := fun m g m' g' hp ha =>
  ⟨fun c => Cert.Proof.KernelIdeal.Rv m c,
    (θ_run Cert.KernelIdeal.defs _ _).mono (fun _ h c => h.1 c) (Cert.Proof.KernelIdeal.run_main (F := Ideal) m g),
    (θ_run Cert.ReferenceIdeal.defs _ _).mono (fun r h c => ⟨(h c).1.trans (by
        refine (Cert.ReferenceIdeal.Read.val_main_v53_eq m' c).trans ?_
        rw [(ha c).1, (ha c).2.1, (ha c).2.2]
        exact (Cert.Proof.Equation.result_eq _ _ _ (hp c)).symm), (h c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Pre_distinct_rows.Gen.facts,
    frame_bits, frame_ideal, fun m g _ => frame_ideal m g trivial, frame_reference, fun m g _ => frame_reference m g trivial,
    trivial, equal_results⟩

end Cert.Proof

end
